-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineIdeal_two_rows [hPre_two_rows : Cert.Pre_two_rows.Facts] (m : (ℓ : Loc Cert.CombineIdeal.nD Cert.CombineIdeal.τ Cert.CombineIdeal.sig) → Buf (Elt Ideal) ℓ) : Prop :=
  ∀ c : Dev Cert.CombineIdeal.nD,
    (Cert.Pre_two_rows.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5))) = (fun _ => 1#1)

def Pre_CombineReferenceIdeal (m : (ℓ : Loc Cert.CombineReferenceIdeal.nD Cert.CombineReferenceIdeal.τ Cert.CombineReferenceIdeal.sig) → Buf (Elt Ideal) ℓ) : Prop :=
  True

def Pre_CombineReferenceIdeal_two_rows [hPre_two_rows : Cert.Pre_two_rows.Facts] (m : (ℓ : Loc Cert.CombineReferenceIdeal.nD Cert.CombineReferenceIdeal.τ Cert.CombineReferenceIdeal.sig) → Buf (Elt Ideal) ℓ) : Prop :=
  ∀ c : Dev Cert.CombineReferenceIdeal.nD,
    (Cert.Pre_two_rows.fn (F := Ideal) (m ((c.tc : Thread Cert.CombineReferenceIdeal.nD Cert.CombineReferenceIdeal.τ).loc Cert.CombineReferenceIdeal.main_arg0)) (m ((c.tc : Thread Cert.CombineReferenceIdeal.nD Cert.CombineReferenceIdeal.τ).loc Cert.CombineReferenceIdeal.main_arg1)) (m ((c.tc : Thread Cert.CombineReferenceIdeal.nD Cert.CombineReferenceIdeal.τ).loc Cert.CombineReferenceIdeal.main_arg2)) (m ((c.tc : Thread Cert.CombineReferenceIdeal.nD Cert.CombineReferenceIdeal.τ).loc Cert.CombineReferenceIdeal.main_arg3)) (m ((c.tc : Thread Cert.CombineReferenceIdeal.nD Cert.CombineReferenceIdeal.τ).loc Cert.CombineReferenceIdeal.main_arg4)) (m ((c.tc : Thread Cert.CombineReferenceIdeal.nD Cert.CombineReferenceIdeal.τ).loc Cert.CombineReferenceIdeal.main_arg5))) = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineIdeal_pre_two_rows [hCombineIdeal : Cert.CombineIdeal.Facts] [hPre_two_rows : Cert.Pre_two_rows.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal_two_rows m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_CombineReferenceIdeal_pre_two_rows [hCombineReferenceIdeal : Cert.CombineReferenceIdeal.Facts] [hPre_two_rows : Cert.Pre_two_rows.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal_two_rows m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def preserves_Mix_MixIdeal : Prop :=
  IdealRules.bf16_pair.BufferStatement Cert.MixIdeal.S64x1280x2x512 Cert.MixIdeal.S64x1280x1x512
  ∧ IdealRules.bf16_pair.BufferStatement Cert.MixIdeal.S1x1280x2x512 Cert.MixIdeal.S1x1280x1x512
  ∧ IdealRules.bf16_pair.Statement Cert.MixIdeal.S1x1280x2x512 Cert.MixIdeal.S1x1280x1x512
  ∧ IdealRules.bf16_pack.Statement Cert.MixIdeal.S1x1280x512

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)) →
    ∃ (v0 : (c : Dev Cert.MixIdeal.nD) → Buf (Elt Ideal) ((c.tc : Thread Cert.MixIdeal.nD Cert.MixIdeal.τ).loc Cert.MixIdeal.main_v24_0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v24_0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v77) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v58_0)) (v1 : (c : Dev Cert.ProjectIdeal.nD) → Buf (Elt Ideal) ((c.tc : Thread Cert.ProjectIdeal.nD Cert.ProjectIdeal.τ).loc Cert.ProjectIdeal.main_v58_1)) (v2 : (c : Dev Cert.ProjectIdeal.nD) → Buf (Elt Ideal) ((c.tc : Thread Cert.ProjectIdeal.nD Cert.ProjectIdeal.τ).loc Cert.ProjectIdeal.main_v58_2)) (v3 : (c : Dev Cert.ProjectIdeal.nD) → Buf (Elt Ideal) ((c.tc : Thread Cert.ProjectIdeal.nD Cert.ProjectIdeal.τ).loc Cert.ProjectIdeal.main_v58_3)) (v4 : (c : Dev Cert.ProjectIdeal.nD) → Buf (Elt Ideal) ((c.tc : Thread Cert.ProjectIdeal.nD Cert.ProjectIdeal.τ).loc Cert.ProjectIdeal.main_v58_4)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v58_0) = v0 c
          ∧ r.2.mem ((c.tc : Thread Cert.ProjectIdeal.nD Cert.ProjectIdeal.τ).loc Cert.ProjectIdeal.main_v58_1) = v1 c
          ∧ r.2.mem ((c.tc : Thread Cert.ProjectIdeal.nD Cert.ProjectIdeal.τ).loc Cert.ProjectIdeal.main_v58_2) = v2 c
          ∧ r.2.mem ((c.tc : Thread Cert.ProjectIdeal.nD Cert.ProjectIdeal.τ).loc Cert.ProjectIdeal.main_v58_3) = v3 c
          ∧ r.2.mem ((c.tc : Thread Cert.ProjectIdeal.nD Cert.ProjectIdeal.τ).loc Cert.ProjectIdeal.main_v58_4) = v4 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v152) = v0 c
          ∧ r.2.mem ((c.tc : Thread Cert.ProjectReferenceIdeal.nD Cert.ProjectReferenceIdeal.τ).loc Cert.ProjectReferenceIdeal.main_v153) = v1 c
          ∧ r.2.mem ((c.tc : Thread Cert.ProjectReferenceIdeal.nD Cert.ProjectReferenceIdeal.τ).loc Cert.ProjectReferenceIdeal.main_v154) = v2 c
          ∧ r.2.mem ((c.tc : Thread Cert.ProjectReferenceIdeal.nD Cert.ProjectReferenceIdeal.τ).loc Cert.ProjectReferenceIdeal.main_v147) = v3 c
          ∧ r.2.mem ((c.tc : Thread Cert.ProjectReferenceIdeal.nD Cert.ProjectReferenceIdeal.τ).loc Cert.ProjectReferenceIdeal.main_v155) = v4 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Combine_CombineIdeal : Prop :=
  True

def algebraic_CombineIdeal_CombineReferenceIdeal_pre_two_rows [hCombineIdeal : Cert.CombineIdeal.Facts] [hCombineReferenceIdeal : Cert.CombineReferenceIdeal.Facts] [hPre_two_rows : Cert.Pre_two_rows.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal_two_rows m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v2)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v2) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v65) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def Claim : Prop :=
  ∃ (hMix : Cert.Mix.Facts) (hMixIdeal : Cert.MixIdeal.Facts) (hMixReferenceIdeal : Cert.MixReferenceIdeal.Facts) (hProject : Cert.Project.Facts) (hProjectIdeal : Cert.ProjectIdeal.Facts) (hProjectReferenceIdeal : Cert.ProjectReferenceIdeal.Facts) (hCombine : Cert.Combine.Facts) (hCombineIdeal : Cert.CombineIdeal.Facts) (hCombineReferenceIdeal : Cert.CombineReferenceIdeal.Facts) (hPre_two_rows : Cert.Pre_two_rows.Facts),
    quiescent_Mix (hMix := hMix)
    ∧ quiescent_MixIdeal (hMixIdeal := hMixIdeal)
    ∧ quiescent_MixReferenceIdeal (hMixReferenceIdeal := hMixReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Combine (hCombine := hCombine)
    ∧ quiescent_CombineIdeal (hCombineIdeal := hCombineIdeal)
    ∧ quiescent_CombineIdeal_pre_two_rows (hCombineIdeal := hCombineIdeal) (hPre_two_rows := hPre_two_rows)
    ∧ quiescent_CombineReferenceIdeal (hCombineReferenceIdeal := hCombineReferenceIdeal)
    ∧ quiescent_CombineReferenceIdeal_pre_two_rows (hCombineReferenceIdeal := hCombineReferenceIdeal) (hPre_two_rows := hPre_two_rows)
    ∧ preserves_Mix_MixIdeal
    ∧ algebraic_MixIdeal_MixReferenceIdeal (hMixIdeal := hMixIdeal) (hMixReferenceIdeal := hMixReferenceIdeal)
    ∧ preserves_Project_ProjectIdeal
    ∧ algebraic_ProjectIdeal_ProjectReferenceIdeal (hProjectIdeal := hProjectIdeal) (hProjectReferenceIdeal := hProjectReferenceIdeal)
    ∧ preserves_Combine_CombineIdeal
    ∧ algebraic_CombineIdeal_CombineReferenceIdeal_pre_two_rows (hCombineIdeal := hCombineIdeal) (hCombineReferenceIdeal := hCombineReferenceIdeal) (hPre_two_rows := hPre_two_rows)
-- ==== Pre_two_rows.lean ====
abbrev S64x1280x512 : Shape := ⟨3, ![64, 1280, 512]⟩
abbrev S32768x2 : Shape := ⟨2, ![32768, 2]⟩
abbrev S32768x1024 : Shape := ⟨2, ![32768, 1024]⟩
abbrev S1024 : Shape := ⟨1, ![1024]⟩
abbrev S_ : Shape := ⟨0, ![]⟩
abbrev S32768x1 : Shape := ⟨2, ![32768, 1]⟩

class Facts : Prop where
  bcast_S_S32768x2 : S_.BroadcastsInDim S32768x2 (![] : Fin 0 → Fin S32768x2.rank)
  slices_S32768x2_S32768x1_0_0 : S32768x2.Slices ![0, 0] S32768x1
  slices_S32768x2_S32768x1_0_1 : S32768x2.Slices ![0, 1] S32768x1
  bcast_S32768x1_S32768x2_0_1 : S32768x1.BroadcastsInDim S32768x2 (![0, 1] : Fin 2 → Fin S32768x2.rank)

variable [Facts]

def fn {F : FTy → Type} [FloatOps F] (main_arg0 : IVec S64x1280x512 32) (main_arg1 : IVec S32768x2 32) (main_arg2 : FVec F S32768x2 .f32) (main_arg3 : FVec F S32768x1024 .f32) (main_arg4 : FVec F S1024 .f32) (main_arg5 : FVec F S1024 .f32) : IVec S32768x2 1 :=
  let main_c : IVec S_ 32 := constantI S_ 32 0#32
  let main_v0 : IVec S32768x2 32 := broadcastInDim S32768x2 ![] bcast_S_S32768x2 main_c
  let main_v1 : IVec S32768x2 1 := cmpi .sge main_arg1 main_v0
  let main_c_0 : IVec S_ 32 := constantI S_ 32 1280#32
  let main_v2 : IVec S32768x2 32 := broadcastInDim S32768x2 ![] bcast_S_S32768x2 main_c_0
  let main_v3 : IVec S32768x2 1 := cmpi .slt main_arg1 main_v2
  let main_v4 : IVec S32768x2 1 := andi main_v1 main_v3
  let main_v5 : IVec S32768x1 32 := (extractStridedSlice S32768x1 ![0, 0] · slices_S32768x2_S32768x1_0_0) main_arg1
  let main_v6 : IVec S32768x1 32 := (extractStridedSlice S32768x1 ![0, 1] · slices_S32768x2_S32768x1_0_1) main_arg1
  let main_v7 : IVec S32768x1 1 := cmpi .ne main_v5 main_v6
  let main_v8 : IVec S32768x2 1 := broadcastInDim S32768x2 ![0, 1] bcast_S32768x1_S32768x2_0_1 main_v7
  let main_v9 : IVec S32768x2 1 := andi main_v4 main_v8
  main_v9
-- ==== Mix.lean ====
abbrev S16x2048x1024 : Shape := ⟨3, ![16, 2048, 1024]⟩
abbrev S16x2048x512 : Shape := ⟨3, ![16, 2048, 512]⟩
abbrev S1024x4936 : Shape := ⟨2, ![1024, 4936]⟩
abbrev S2048 : Shape := ⟨1, ![2048]⟩
abbrev S512x1024 : Shape := ⟨2, ![512, 1024]⟩
abbrev S3x512 : Shape := ⟨2, ![3, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S1024x1536 : Shape := ⟨2, ![1024, 1536]⟩
abbrev S1024x2048 : Shape := ⟨2, ![1024, 2048]⟩
abbrev S1024x4x8 : Shape := ⟨3, ![1024, 4, 8]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x2048 : Shape := ⟨2, ![1, 2048]⟩
abbrev S1x1024 : Shape := ⟨2, ![1, 1024]⟩
abbrev S64x1280x512 : Shape := ⟨3, ![64, 1280, 512]⟩
abbrev S32768x2 : Shape := ⟨2, ![32768, 2]⟩
abbrev S64x1x128 : Shape := ⟨3, ![64, 1, 128]⟩
abbrev S512x512 : Shape := ⟨2, ![512, 512]⟩
abbrev S1x1280x512 : Shape := ⟨3, ![1, 1280, 512]⟩
abbrev S512x2 : Shape := ⟨2, ![512, 2]⟩
abbrev S1x1x128 : Shape := ⟨3, ![1, 1, 128]⟩
abbrev S520x512 : Shape := ⟨2, ![520, 512]⟩
abbrev S8x512 : Shape := ⟨2, ![8, 512]⟩
abbrev S512x1536 : Shape := ⟨2, ![512, 1536]⟩
abbrev S1x512 : Shape := ⟨2, ![1, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S128x128 : Shape := ⟨2, ![128, 128]⟩
abbrev S8x128 : Shape := ⟨2, ![8, 128]⟩
abbrev S1280x512 : Shape := ⟨2, ![1280, 512]⟩
abbrev S1280x1024 : Shape := ⟨2, ![1280, 1024]⟩
abbrev S1x1280x1024 : Shape := ⟨3, ![1, 1280, 1024]⟩

abbrev nBuf : Space → Nat
  | .hbm => 45
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S1024x4936, .f32⟩
  | .hbm, ⟨3, _⟩ => ⟨S2048, .f32⟩
  | .hbm, ⟨4, _⟩ => ⟨S512x1024, .f32⟩
  | .hbm, ⟨5, _⟩ => ⟨S512x1024, .f32⟩
  | .hbm, ⟨6, _⟩ => ⟨S3x512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S4x1024x8, .f32⟩
  | .hbm, ⟨13, _⟩ => ⟨S4x8, .f32⟩
  | .hbm, ⟨14, _⟩ => ⟨S1024x1536, .f32⟩
  | .hbm, ⟨15, _⟩ => ⟨S1024x2048, .f32⟩
  | .hbm, ⟨16, _⟩ => ⟨S1024x4x8, .f32⟩
  | .hbm, ⟨17, _⟩ => ⟨S1024x32, .f32⟩
  | .hbm, ⟨18, _⟩ => ⟨S_, .f32⟩
  | .hbm, ⟨19, _⟩ => ⟨S1024x92, .f32⟩
  | .hbm, ⟨20, _⟩ => ⟨S1024x128, .f32⟩
  | .hbm, ⟨21, _⟩ => ⟨S32, .f32⟩
  | .hbm, ⟨22, _⟩ => ⟨S_, .f32⟩
  | .hbm, ⟨23, _⟩ => ⟨S92, .f32⟩
  | .hbm, ⟨24, _⟩ => ⟨S128, .f32⟩
  | .hbm, ⟨25, _⟩ => ⟨S1x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S32768x1024, .f32⟩
  | .hbm, ⟨31, _⟩ => ⟨S32768x512, .bf16⟩
  | .hbm, ⟨32, _⟩ => ⟨S1024x1536, .bf16⟩
  | .hbm, ⟨33, _⟩ => ⟨S1024x2048, .bf16⟩
  | .hbm, ⟨34, _⟩ => ⟨S1x2048, .f32⟩
  | .hbm, ⟨35, _⟩ => ⟨S512x1024, .bf16⟩
  | .hbm, ⟨36, _⟩ => ⟨S512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S32768x1024, .f32⟩
  | .hbm, ⟨41, _⟩ => ⟨S64x1280x512, .i32⟩
  | .hbm, ⟨42, _⟩ => ⟨S32768x2, .i32⟩
  | .hbm, ⟨43, _⟩ => ⟨S32768x2, .f32⟩
  | .hbm, ⟨44, _⟩ => ⟨S64x1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1024x1536, .bf16⟩
  | .local _ .vmem, ⟨5, _⟩ => ⟨S1024x2048, .bf16⟩
  | .local _ .vmem, ⟨6, _⟩ => ⟨S1x2048, .f32⟩
  | .local _ .vmem, ⟨7, _⟩ => ⟨S3x512, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S1x1280x512, .i32⟩
  | .local _ .vmem, ⟨19, _⟩ => ⟨S1x1280x512, .i32⟩
  | .local _ .vmem, ⟨20, _⟩ => ⟨S512x2, .i32⟩
  | .local _ .vmem, ⟨21, _⟩ => ⟨S512x2, .i32⟩
  | .local _ .vmem, ⟨22, _⟩ => ⟨S512x2, .f32⟩
  | .local _ .vmem, ⟨23, _⟩ => ⟨S512x2, .f32⟩
  | .local _ .vmem, ⟨24, _⟩ => ⟨S1x1x128, .f32⟩
  | .local _ .vmem, ⟨25, _⟩ => ⟨S1x1x128, .f32⟩
  | .local _ .vmem, ⟨26, _⟩ => ⟨S520x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1280x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixIdeal.lean ====
abbrev S16x2048x1024 : Shape := ⟨3, ![16, 2048, 1024]⟩
abbrev S16x2048x512 : Shape := ⟨3, ![16, 2048, 512]⟩
abbrev S1024x4936 : Shape := ⟨2, ![1024, 4936]⟩
abbrev S2048 : Shape := ⟨1, ![2048]⟩
abbrev S512x1024 : Shape := ⟨2, ![512, 1024]⟩
abbrev S3x512 : Shape := ⟨2, ![3, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S1024x1536 : Shape := ⟨2, ![1024, 1536]⟩
abbrev S1024x2048 : Shape := ⟨2, ![1024, 2048]⟩
abbrev S1024x4x8 : Shape := ⟨3, ![1024, 4, 8]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S32 : Shape := ⟨1, ![32]⟩
abbrev S92 : Shape := ⟨1, ![92]⟩
abbrev S128 : Shape := ⟨1, ![128]⟩
abbrev S1x128 : Shape := ⟨2, ![1, 128]⟩
abbrev S32768x1024 : Shape := ⟨2, ![32768, 1024]⟩
abbrev S32768x512 : Shape := ⟨2, ![32768, 512]⟩
abbrev S1x2048 : Shape := ⟨2, ![1, 2048]⟩
abbrev S1x1024 : Shape := ⟨2, ![1, 1024]⟩
abbrev S64x1280x2x512 : Shape := ⟨4, ![64, 1280, 2, 512]⟩
abbrev S32768x2 : Shape := ⟨2, ![32768, 2]⟩
abbrev S64x1x128 : Shape := ⟨3, ![64, 1, 128]⟩
abbrev S64x1280x1x512 : Shape := ⟨4, ![64, 1280, 1, 512]⟩
abbrev S64x1280x512 : Shape := ⟨3, ![64, 1280, 512]⟩
abbrev S512x512 : Shape := ⟨2, ![512, 512]⟩
abbrev S1x1280x512 : Shape := ⟨3, ![1, 1280, 512]⟩
abbrev S1x1280x2x512 : Shape := ⟨4, ![1, 1280, 2, 512]⟩
abbrev S1x1280x1x512 : Shape := ⟨4, ![1, 1280, 1, 512]⟩
abbrev S512x2 : Shape := ⟨2, ![512, 2]⟩
abbrev S1x1x128 : Shape := ⟨3, ![1, 1, 128]⟩
abbrev S520x512 : Shape := ⟨2, ![520, 512]⟩
abbrev S8x512 : Shape := ⟨2, ![8, 512]⟩
abbrev S512x1536 : Shape := ⟨2, ![512, 1536]⟩
abbrev S1x512 : Shape := ⟨2, ![1, 512]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S128x128 : Shape := ⟨2, ![128, 128]⟩
abbrev S8x128 : Shape := ⟨2, ![8, 128]⟩
abbrev S1280x512 : Shape := ⟨2, ![1280, 512]⟩
abbrev S1280x1024 : Shape := ⟨2, ![1280, 1024]⟩
abbrev S1x1280x1024 : Shape := ⟨3, ![1, 1280, 1024]⟩

abbrev nBuf : Space → Nat
  | .hbm => 45
  | .vmem => 27
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S1024x4936, .f32⟩
  | .hbm, ⟨3, _⟩ => ⟨S2048, .f32⟩
  | .hbm, ⟨4, _⟩ => ⟨S512x1024, .f32⟩
  | .hbm, ⟨5, _⟩ => ⟨S512x1024, .f32⟩
  | .hbm, ⟨6, _⟩ => ⟨S3x512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S4x1024x8, .f32⟩
  | .hbm, ⟨13, _⟩ => ⟨S4x8, .f32⟩
  | .hbm, ⟨14, _⟩ => ⟨S1024x1536, .f32⟩
  | .hbm, ⟨15, _⟩ => ⟨S1024x2048, .f32⟩
  | .hbm, ⟨16, _⟩ => ⟨S1024x4x8, .f32⟩
  | .hbm, ⟨17, _⟩ => ⟨S1024x32, .f32⟩
  | .hbm, ⟨18, _⟩ => ⟨S_, .f32⟩
  | .hbm, ⟨19, _⟩ => ⟨S1024x92, .f32⟩
  | .hbm, ⟨20, _⟩ => ⟨S1024x128, .f32⟩
  | .hbm, ⟨21, _⟩ => ⟨S32, .f32⟩
  | .hbm, ⟨22, _⟩ => ⟨S_, .f32⟩
  | .hbm, ⟨23, _⟩ => ⟨S92, .f32⟩
  | .hbm, ⟨24, _⟩ => ⟨S128, .f32⟩
  | .hbm, ⟨25, _⟩ => ⟨S1x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S32768x1024, .f32⟩
  | .hbm, ⟨31, _⟩ => ⟨S32768x512, .bf16⟩
  | .hbm, ⟨32, _⟩ => ⟨S1024x1536, .bf16⟩
  | .hbm, ⟨33, _⟩ => ⟨S1024x2048, .bf16⟩
  | .hbm, ⟨34, _⟩ => ⟨S1x2048, .f32⟩
  | .hbm, ⟨35, _⟩ => ⟨S512x1024, .bf16⟩
  | .hbm, ⟨36, _⟩ => ⟨S512x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S32768x1024, .f32⟩
  | .hbm, ⟨41, _⟩ => ⟨S64x1280x2x512, .bf16⟩
  | .hbm, ⟨42, _⟩ => ⟨S32768x2, .i32⟩
  | .hbm, ⟨43, _⟩ => ⟨S32768x2, .f32⟩
  | .hbm, ⟨44, _⟩ => ⟨S64x1x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1024x1536, .bf16⟩
  | .local _ .vmem, ⟨5, _⟩ => ⟨S1024x2048, .bf16⟩
  | .local _ .vmem, ⟨6, _⟩ => ⟨S1x2048, .f32⟩
  | .local _ .vmem, ⟨7, _⟩ => ⟨S3x512, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x128, .bf16⟩
  | .local _ .vmem, ⟨14, _⟩ => ⟨S1024x128, .bf16⟩
  | .local _ .vmem, ⟨15, _⟩ => ⟨S1x128, .f32⟩
  | .local _ .vmem, ⟨16, _⟩ => ⟨S512x1024, .f32⟩
  | .local _ .vmem, ⟨17, _⟩ => ⟨S512x1024, .f32⟩
  | .local _ .vmem, ⟨18, _⟩ => ⟨S1x1280x2x512, .bf16⟩
  | .local _ .vmem, ⟨19, _⟩ => ⟨S1x1280x2x512, .bf16⟩
  | .local _ .vmem, ⟨20, _⟩ => ⟨S512x2, .i32⟩
  | .local _ .vmem, ⟨21, _⟩ => ⟨S512x2, .i32⟩
  | .local _ .vmem, ⟨22, _⟩ => ⟨S512x2, .f32⟩
  | .local _ .vmem, ⟨23, _⟩ => ⟨S512x2, .f32⟩
  | .local _ .vmem, ⟨24, _⟩ => ⟨S1x1x128, .f32⟩
  | .local _ .vmem, ⟨25, _⟩ => ⟨S1x1x128, .f32⟩
  | .local _ .vmem, ⟨26, _⟩ => ⟨S520x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, 0, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1280x2x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== MixReferenceIdeal.lean ====
abbrev S16x2048x1024 : Shape := ⟨3, ![16, 2048, 1024]⟩
abbrev S16x2048x512 : Shape := ⟨3, ![16, 2048, 512]⟩
abbrev S1024x4936 : Shape := ⟨2, ![1024, 4936]⟩
abbrev S2048 : Shape := ⟨1, ![2048]⟩
abbrev S512x1024 : Shape := ⟨2, ![512, 1024]⟩
abbrev S3x512 : Shape := ⟨2, ![3, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S32768x1024 : Shape := ⟨2, ![32768, 1024]⟩
abbrev S32768x4936 : Shape := ⟨2, ![32768, 4936]⟩
abbrev S32768x512 : Shape := ⟨2, ![32768, 512]⟩
abbrev S32768x2048 : Shape := ⟨2, ![32768, 2048]⟩
abbrev S_ : Shape := ⟨0, ![]⟩
abbrev S16x2x512 : Shape := ⟨3, ![16, 2, 512]⟩
abbrev S16x2050x512 : Shape := ⟨3, ![16, 2050, 512]⟩
abbrev S1x512 : Shape := ⟨2, ![1, 512]⟩
abbrev S512 : Shape := ⟨1, ![512]⟩
abbrev S1x1x512 : Shape := ⟨3, ![1, 1, 512]⟩
abbrev S1x2048 : Shape := ⟨2, ![1, 2048]⟩
abbrev S32768 : Shape := ⟨1, ![32768]⟩
abbrev S32768x1 : Shape := ⟨2, ![32768, 1]⟩
abbrev S1x1024 : Shape := ⟨2, ![1, 1024]⟩

abbrev nBuf : Space → Nat
  | .hbm => 101
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .bf16⟩
  | .hbm, ⟨2, _⟩ => ⟨S1024x4936, .f32⟩
  | .hbm, ⟨3, _⟩ => ⟨S2048, .f32⟩
  | .hbm, ⟨4, _⟩ => ⟨S512x1024, .f32⟩
  | .hbm, ⟨5, _⟩ => ⟨S512x1024, .f32⟩
  | .hbm, ⟨6, _⟩ => ⟨S3x512, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x4, .f32⟩
  | .hbm, ⟨11, _⟩ => ⟨S4, .f32⟩
  | .hbm, ⟨12, _⟩ => ⟨S4x1024x8, .f32⟩
  | .hbm, ⟨13, _⟩ => ⟨S4x8, .f32⟩
  | .hbm, ⟨14, _⟩ => ⟨S32768x1024, .f32⟩
  | .hbm, ⟨15, _⟩ => ⟨S32768x4936, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S32768x2048, .f32⟩
  | .hbm, ⟨20, _⟩ => ⟨S32768x512, .f32⟩
  | .hbm, ⟨21, _⟩ => ⟨S16x2048x512, .f32⟩
  | .hbm, ⟨22, _⟩ => ⟨S_, .f32⟩
  | .hbm, ⟨23, _⟩ => ⟨S16x2x512, .f32⟩
  | .hbm, ⟨24, _⟩ => ⟨S16x2050x512, .f32⟩
  | .hbm, ⟨25, _⟩ => ⟨S1x512, .f32⟩
  | .hbm, ⟨26, _⟩ => ⟨S512, .f32⟩
  | .hbm, ⟨27, _⟩ => ⟨S16x2048x512, .f32⟩
  | .hbm, ⟨28, _⟩ => ⟨S1x1x512, .f32⟩
  | .hbm, ⟨29, _⟩ => ⟨S16x2048x512, .f32⟩
  | .hbm, ⟨30, _⟩ => ⟨S16x2048x512, .f32⟩
  | .hbm, ⟨31, _⟩ => ⟨S1x512, .f32⟩
  | .hbm, ⟨32, _⟩ => ⟨S512, .f32⟩
  | .hbm, ⟨33, _⟩ => ⟨S16x2048x512, .f32⟩
  | .hbm, ⟨34, _⟩ => ⟨S1x1x512, .f32⟩
  | .hbm, ⟨35, _⟩ => ⟨S16x2048x512, .f32⟩
  | .hbm, ⟨36, _⟩ => ⟨S16x2048x512, .f32⟩
  | .hbm, ⟨37, _⟩ => ⟨S16x2048x512, .f32⟩
  | .hbm, ⟨38, _⟩ => ⟨S1x512, .f32⟩
  | .hbm, ⟨39, _⟩ => ⟨S512, .f32⟩
  | .hbm, ⟨40, _⟩ => ⟨S16x2048x512, .f32⟩
  | .hbm, ⟨41, _⟩ => ⟨S1x1x512, .f32⟩
  | .hbm, ⟨42, _⟩ => ⟨S16x2048x512, .f32⟩
  | .hbm, ⟨43, _⟩ => ⟨S16x2048x512, .f32⟩
  | .hbm, ⟨44, _⟩ => ⟨S16x2048x512, .f32⟩
  | .hbm, ⟨45, _⟩ => ⟨S32768x512, .f32⟩
  | .hbm, ⟨46, _⟩ => ⟨S32768x512, .f32⟩
  | .hbm, ⟨47, _⟩ => ⟨S1x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S_, .f32⟩
  | .hbm, ⟨53, _⟩ => ⟨S32768x2048, .f32⟩
  | .hbm, ⟨54, _⟩ => ⟨S32768x2048, .f32⟩
  | .hbm, ⟨55, _⟩ => ⟨S_, .f32⟩
  | .hbm, ⟨56, _⟩ => ⟨S32768x2048, .f32⟩
  | .hbm, ⟨57, _⟩ => ⟨S32768x2048, .f32⟩
  | .hbm, ⟨58, _⟩ => ⟨S32768x1024, .f32⟩
  | .hbm, ⟨59, _⟩ => ⟨S32768x1024, .f32⟩
  | .hbm, ⟨60, _⟩ => ⟨S32768x512, .bf16⟩
  | .hbm, ⟨61, _⟩ => ⟨S32768x512, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S32768x1024, .f32⟩
  | .hbm, ⟨66, _⟩ => ⟨S32768x1024, .f32⟩
  | .hbm, ⟨67, _⟩ => ⟨S32768x1024, .f32⟩
  | .hbm, ⟨68, _⟩ => ⟨S_, .f32⟩
  | .hbm, ⟨69, _⟩ => ⟨S32768x1024, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768, .f32⟩
  | .hbm, ⟨74, _⟩ => ⟨S32768x1, .f32⟩
  | .hbm, ⟨75, _⟩ => ⟨S_, .f32⟩
  | .hbm, ⟨76, _⟩ => ⟨S32768x1, .f32⟩
  | .hbm, ⟨77, _⟩ => ⟨S32768x1, .f32⟩
  | .hbm, ⟨78, _⟩ => ⟨S32768x1024, .f32⟩
  | .hbm, ⟨79, _⟩ => ⟨S32768x1024, .f32⟩
  | .hbm, ⟨80, _⟩ => ⟨S32768x1024, .f32⟩
  | .hbm, ⟨81, _⟩ => ⟨S_, .f32⟩
  | .hbm, ⟨82, _⟩ => ⟨S32768, .f32⟩
  | .hbm, ⟨83, _⟩ => ⟨S32768x1, .f32⟩
  | .hbm, ⟨84, _⟩ => ⟨S_, .f32⟩
  | .hbm, ⟨85, _⟩ => ⟨S32768x1, .f32⟩
  | .hbm, ⟨86, _⟩ => ⟨S32768x1, .f32⟩
  | .hbm, ⟨87, _⟩ => ⟨S32768x1024, .f32⟩
  | .hbm, ⟨88, _⟩ => ⟨S32768x1024, .f32⟩
  | .hbm, ⟨89, _⟩ => ⟨S_, .f32⟩
  | .hbm, ⟨90, _⟩ => ⟨S32768x1, .f32⟩
  | .hbm, ⟨91, _⟩ => ⟨S32768x1, .f32⟩
  | .hbm, ⟨92, _⟩ => ⟨S32768x1, .f32⟩
  | .hbm, ⟨93, _⟩ => ⟨S32768x1024, .f32⟩
  | .hbm, ⟨94, _⟩ => ⟨S32768x1024, .f32⟩
  | .hbm, ⟨95, _⟩ => ⟨S1x1024, .f32⟩
  | .hbm, ⟨96, _⟩ => ⟨S32768x1024, .f32⟩
  | .hbm, ⟨97, _⟩ => ⟨S32768x1024, .f32⟩
  | .hbm, ⟨98, _⟩ => ⟨S1x1024, .f32⟩
  | .hbm, ⟨99, _⟩ => ⟨S32768x1024, .f32⟩
  | .hbm, ⟨100, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_0 : Ref sig .tc := ⟨.hbm, 52, rfl⟩
abbrev main_v37 : Ref sig .tc := ⟨.hbm, 53, rfl⟩
abbrev main_v38 : Ref sig .tc := ⟨.hbm, 54, rfl⟩
abbrev main_cst_1 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_2 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_cst_4 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_5 : Ref sig .tc := ⟨.hbm, 81, rfl⟩
abbrev main_v61 : Ref sig .tc := ⟨.hbm, 82, rfl⟩
abbrev main_v62 : Ref sig .tc := ⟨.hbm, 83, rfl⟩
abbrev main_cst_6 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩

abbrev nD : Nat := 1
abbrev τ : Topo := Topo.v7x

variable {F : FTy → Type} [FloatOps F]
-- ==== Project.lean ====
abbrev S16x2048x1024 : Shape := ⟨3, ![16, 2048, 1024]⟩
abbrev S1024x4936 : Shape := ⟨2, ![1024, 4936]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S512x1024 : Shape := ⟨2, ![512, 1024]⟩
abbrev S_ : Shape := ⟨0, ![]⟩
abbrev S128x1024 : Shape := ⟨2, ![128, 1024]⟩
abbrev S8x1024 : Shape := ⟨2, ![8, 1024]⟩
abbrev S1168x1024 : Shape := ⟨2, ![1168, 1024]⟩
abbrev S1024x2x64 : Shape := ⟨3, ![1024, 2, 64]⟩
abbrev S1024x2x8 : Shape := ⟨3, ![1024, 2, 8]⟩
abbrev S1024x2x48 : Shape := ⟨3, ![1024, 2, 48]⟩
abbrev S1024x1x64 : Shape := ⟨3, ![1024, 1, 64]⟩
abbrev S1024x1x8 : Shape := ⟨3, ![1024, 1, 8]⟩
abbrev S1024x1x48 : Shape := ⟨3, ![1024, 1, 48]⟩
abbrev S8 : Shape := ⟨1, ![8]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S2048x48 : Shape := ⟨2, ![2048, 48]⟩
abbrev S2048x64 : Shape := ⟨2, ![2048, 64]⟩
abbrev S8x2048 : Shape := ⟨2, ![8, 2048]⟩
abbrev S1x2048x1x64 : Shape := ⟨4, ![1, 2048, 1, 64]⟩
abbrev S1x2048x4x64 : Shape := ⟨4, ![1, 2048, 4, 64]⟩
abbrev S2048x256 : Shape := ⟨2, ![2048, 256]⟩
abbrev S16x8x512x256 : Shape := ⟨4, ![16, 8, 512, 256]⟩
abbrev S16x8x128x256 : Shape := ⟨4, ![16, 8, 128, 256]⟩
abbrev S16x8x8x256 : Shape := ⟨4, ![16, 8, 8, 256]⟩
abbrev S16x2048x256 : Shape := ⟨3, ![16, 2048, 256]⟩
abbrev S1x512x1024 : Shape := ⟨3, ![1, 512, 1024]⟩
abbrev S8x512 : Shape := ⟨2, ![8, 512]⟩
abbrev S512x256 : Shape := ⟨2, ![512, 256]⟩
abbrev S1x2x512x256 : Shape := ⟨4, ![1, 2, 512, 256]⟩
abbrev S1x2x128x256 : Shape := ⟨4, ![1, 2, 128, 256]⟩
abbrev S1x2x8x256 : Shape := ⟨4, ![1, 2, 8, 256]⟩
abbrev S1x512x256 : Shape := ⟨3, ![1, 512, 256]⟩
abbrev S1168x512 : Shape := ⟨2, ![1168, 512]⟩
abbrev S48x512 : Shape := ⟨2, ![48, 512]⟩
abbrev S64x512 : Shape := ⟨2, ![64, 512]⟩
abbrev S64x256 : Shape := ⟨2, ![64, 256]⟩
abbrev S1x1x64x256 : Shape := ⟨4, ![1, 1, 64, 256]⟩
abbrev S128x256 : Shape := ⟨2, ![128, 256]⟩
abbrev S1x1x128x256 : Shape := ⟨4, ![1, 1, 128, 256]⟩
abbrev S8x256 : Shape := ⟨2, ![8, 256]⟩
abbrev S1x1x8x256 : Shape := ⟨4, ![1, 1, 8, 256]⟩
abbrev S512x512 : Shape := ⟨2, ![512, 512]⟩

abbrev nBuf : Space → Nat
  | .hbm => 74
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S1024x4936, .f32⟩
  | .hbm, ⟨2, _⟩ => ⟨S1024x512, .f32⟩
  | .hbm, ⟨3, _⟩ => ⟨S1024x128, .f32⟩
  | .hbm, ⟨4, _⟩ => ⟨S1024x128, .f32⟩
  | .hbm, ⟨5, _⟩ => ⟨S1024x512, .f32⟩
  | .hbm, ⟨6, _⟩ => ⟨S1024x64, .f32⟩
  | .hbm, ⟨7, _⟩ => ⟨S1024x8, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S128x1024, .f32⟩
  | .hbm, ⟨14, _⟩ => ⟨S8x1024, .f32⟩
  | .hbm, ⟨15, _⟩ => ⟨S_, .f32⟩
  | .hbm, ⟨16, _⟩ => ⟨S8x1024, .f32⟩
  | .hbm, ⟨17, _⟩ => ⟨S1168x1024, .f32⟩
  | .hbm, ⟨18, _⟩ => ⟨S1168x1024, .bf16⟩
  | .hbm, ⟨19, _⟩ => ⟨S_, .f32⟩
  | .hbm, ⟨20, _⟩ => ⟨S1024x64, .f32⟩
  | .hbm, ⟨21, _⟩ => ⟨S1024x2x64, .f32⟩
  | .hbm, ⟨22, _⟩ => ⟨S1024x2x8, .f32⟩
  | .hbm, ⟨23, _⟩ => ⟨S1024x2x8, .f32⟩
  | .hbm, ⟨24, _⟩ => ⟨S_, .f32⟩
  | .hbm, ⟨25, _⟩ => ⟨S1024x2x48, .f32⟩
  | .hbm, ⟨26, _⟩ => ⟨S1024x2x64, .f32⟩
  | .hbm, ⟨27, _⟩ => ⟨S1024x128, .f32⟩
  | .hbm, ⟨28, _⟩ => ⟨S1024x1x64, .f32⟩
  | .hbm, ⟨29, _⟩ => ⟨S1024x1x8, .f32⟩
  | .hbm, ⟨30, _⟩ => ⟨S1024x1x8, .f32⟩
  | .hbm, ⟨31, _⟩ => ⟨S_, .f32⟩
  | .hbm, ⟨32, _⟩ => ⟨S1024x1x48, .f32⟩
  | .hbm, ⟨33, _⟩ => ⟨S1024x1x64, .f32⟩
  | .hbm, ⟨34, _⟩ => ⟨S1024x64, .f32⟩
  | .hbm, ⟨35, _⟩ => ⟨S1024x512, .f32⟩
  | .hbm, ⟨36, _⟩ => ⟨S1024x512, .bf16⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S_, .f32⟩
  | .hbm, ⟨43, _⟩ => ⟨S8, .f32⟩
  | .hbm, ⟨44, _⟩ => ⟨S8, .f32⟩
  | .hbm, ⟨45, _⟩ => ⟨S2048, .i32⟩
  | .hbm, ⟨46, _⟩ => ⟨S2048, .f32⟩
  | .hbm, ⟨47, _⟩ => ⟨S2048x1, .f32⟩
  | .hbm, ⟨48, _⟩ => ⟨S1x8, .f32⟩
  | .hbm, ⟨49, _⟩ => ⟨S2048x8, .f32⟩
  | .hbm, ⟨50, _⟩ => ⟨S2048x8, .f32⟩
  | .hbm, ⟨51, _⟩ => ⟨S2048x8, .f32⟩
  | .hbm, ⟨52, _⟩ => ⟨S2048x8, .f32⟩
  | .hbm, ⟨53, _⟩ => ⟨S2048x8, .f32⟩
  | .hbm, ⟨54, _⟩ => ⟨S_, .f32⟩
  | .hbm, ⟨55, _⟩ => ⟨S2048x48, .f32⟩
  | .hbm, ⟨56, _⟩ => ⟨S_, .f32⟩
  | .hbm, ⟨57, _⟩ => ⟨S2048x48, .f32⟩
  | .hbm, ⟨58, _⟩ => ⟨S2048x64, .f32⟩
  | .hbm, ⟨59, _⟩ => ⟨S2048x8, .f32⟩
  | .hbm, ⟨60, _⟩ => ⟨S2048x64, .f32⟩
  | .hbm, ⟨61, _⟩ => ⟨S8x2048, .f32⟩
  | .hbm, ⟨62, _⟩ => ⟨S8x2048, .f32⟩
  | .hbm, ⟨63, _⟩ => ⟨S1x2048x1x64, .f32⟩
  | .hbm, ⟨64, _⟩ => ⟨S1x2048x4x64, .f32⟩
  | .hbm, ⟨65, _⟩ => ⟨S2048x256, .f32⟩
  | .hbm, ⟨66, _⟩ => ⟨S1x2048x1x64, .f32⟩
  | .hbm, ⟨67, _⟩ => ⟨S1x2048x4x64, .f32⟩
  | .hbm, ⟨68, _⟩ => ⟨S2048x256, .f32⟩
  | .hbm, ⟨69, _⟩ => ⟨S16x8x512x256, .bf16⟩
  | .hbm, ⟨70, _⟩ => ⟨S16x8x512x256, .bf16⟩
  | .hbm, ⟨71, _⟩ => ⟨S16x8x128x256, .bf16⟩
  | .hbm, ⟨72, _⟩ => ⟨S16x8x8x256, .f32⟩
  | .hbm, ⟨73, _⟩ => ⟨S16x2048x256, .bf16⟩
  | .local _ .vmem, ⟨0, _⟩ => ⟨S1x512x1024, .f32⟩
  | .local _ .vmem, ⟨1, _⟩ => ⟨S1x512x1024, .f32⟩
  | .local _ .vmem, ⟨2, _⟩ => ⟨S1168x1024, .bf16⟩
  | .local _ .vmem, ⟨3, _⟩ => ⟨S1024x512, .bf16⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S1x2x512x256, .bf16⟩
  | .local _ .vmem, ⟨13, _⟩ => ⟨S1x2x512x256, .bf16⟩
  | .local _ .vmem, ⟨14, _⟩ => ⟨S1x2x512x256, .bf16⟩
  | .local _ .vmem, ⟨15, _⟩ => ⟨S1x2x512x256, .bf16⟩
  | .local _ .vmem, ⟨16, _⟩ => ⟨S1x2x128x256, .bf16⟩
  | .local _ .vmem, ⟨17, _⟩ => ⟨S1x2x128x256, .bf16⟩
  | .local _ .vmem, ⟨18, _⟩ => ⟨S1x2x8x256, .f32⟩
  | .local _ .vmem, ⟨19, _⟩ => ⟨S1x2x8x256, .f32⟩
  | .local _ .vmem, ⟨20, _⟩ => ⟨S1x512x256, .bf16⟩
  | .local _ .vmem, ⟨21, _⟩ => ⟨S1x512x256, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_6 : Ref sig .tc := ⟨.hbm, 54, rfl⟩
abbrev main_v45 : Ref sig .tc := ⟨.hbm, 55, rfl⟩
abbrev main_cst_7 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58_0 : Ref sig .tc := ⟨.hbm, 69, rfl⟩
abbrev main_v58_1 : Ref sig .tc := ⟨.hbm, 70, rfl⟩
abbrev main_v58_2 : Ref sig .tc := ⟨.hbm, 71, rfl⟩
abbrev main_v58_3 : Ref sig .tc := ⟨.hbm, 72, rfl⟩
abbrev main_v58_4 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1168x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x8x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ProjectReferenceIdeal.lean ====
abbrev S16x2048x1024 : Shape := ⟨3, ![16, 2048, 1024]⟩
abbrev S1024x4936 : Shape := ⟨2, ![1024, 4936]⟩
abbrev S32768x1024 : Shape := ⟨2, ![32768, 1024]⟩
abbrev S1024x1352 : Shape := ⟨2, ![1024, 1352]⟩
abbrev S32768x1352 : Shape := ⟨2, ![32768, 1352]⟩
abbrev S16x2048x1352 : Shape := ⟨3, ![16, 2048, 1352]⟩
abbrev S16x2048x512 : Shape := ⟨3, ![16, 2048, 512]⟩
abbrev S16x2048x8x64 : Shape := ⟨4, ![16, 2048, 8, 64]⟩
abbrev S8 : Shape := ⟨1, ![8]⟩
abbrev S_ : Shape := ⟨0, ![]⟩
abbrev S2048 : Shape := ⟨1, ![2048]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S16x2048x8x8 : Shape := ⟨4, ![16, 2048, 8, 8]⟩
abbrev S16x2048x8x48 : Shape := ⟨4, ![16, 2048, 8, 48]⟩
abbrev S16x2048x128 : Shape := ⟨3, ![16, 2048, 128]⟩
abbrev S16x2048x2x64 : Shape := ⟨4, ![16, 2048, 2, 64]⟩
abbrev S16x2048x2x8 : Shape := ⟨4, ![16, 2048, 2, 8]⟩
abbrev S16x2048x2x48 : Shape := ⟨4, ![16, 2048, 2, 48]⟩
abbrev S16x2048x64 : Shape := ⟨3, ![16, 2048, 64]⟩
abbrev S16x2048x1x64 : Shape := ⟨4, ![16, 2048, 1, 64]⟩
abbrev S16x2048x1x8 : Shape := ⟨4, ![16, 2048, 1, 8]⟩
abbrev S16x2048x1x48 : Shape := ⟨4, ![16, 2048, 1, 48]⟩
abbrev S16x2048x8 : Shape := ⟨3, ![16, 2048, 8]⟩
abbrev S16x8x256x512 : Shape := ⟨4, ![16, 8, 256, 512]⟩
abbrev S16x8x512x256 : Shape := ⟨4, ![16, 8, 512, 256]⟩
abbrev S16x8x256x128 : Shape := ⟨4, ![16, 8, 256, 128]⟩
abbrev S16x8x128x256 : Shape := ⟨4, ![16, 8, 128, 256]⟩
abbrev S16x8x256x8 : Shape := ⟨4, ![16, 8, 256, 8]⟩
abbrev S16x8x8x256 : Shape := ⟨4, ![16, 8, 8, 256]⟩
abbrev S16x2048x256 : Shape := ⟨3, ![16, 2048, 256]⟩

abbrev nBuf : Space → Nat
  | .hbm => 168
  | .vmem => 0
  | .smem => 0
  | _ => 0

abbrev hbmTy0_0 (i : Nat) : BufTy := match i % 128 with
  | 0 => ⟨S16x2048x1024, .f32⟩
  | 1 => ⟨S1024x4936, .f32⟩
  | 2 => ⟨S32768x1024, .f32⟩
  | 3 => ⟨S1024x1352, .f32⟩
  | 4 => ⟨S32768x1352, .f32⟩
  | 5 => ⟨S16x2048x1352, .f32⟩
  | 6 => ⟨S16x2048x512, .f32⟩
  | 7 => ⟨S16x2048x8x64, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S2048, .i32⟩
  | 17 => ⟨S2048, .f32⟩
  | 18 => ⟨S2048x1, .f32⟩
  | 19 => ⟨S1x8, .f32⟩
  | 20 => ⟨S2048x8, .f32⟩
  | 21 => ⟨S2048x8, .f32⟩
  | 22 => ⟨S2048x8, .f32⟩
  | 23 => ⟨S2048x8, .f32⟩
  | 24 => ⟨S1x2048x1x8, .f32⟩
  | 25 => ⟨S2048x8, .f32⟩
  | 26 => ⟨S1x2048x1x8, .f32⟩
  | 27 => ⟨S16x2048x8x8, .f32⟩
  | 28 => ⟨S16x2048x8x8, .f32⟩
  | 29 => ⟨S16x2048x8x8, .f32⟩
  | 30 => ⟨S16x2048x8x8, .f32⟩
  | 31 => ⟨S16x2048x8x8, .f32⟩
  | 32 => ⟨S16x2048x8x8, .f32⟩
  | 33 => ⟨S16x2048x8x8, .f32⟩
  | 34 => ⟨S16x2048x8x8, .f32⟩
  | 35 => ⟨S16x2048x8x8, .f32⟩
  | 36 => ⟨S16x2048x8x8, .f32⟩
  | 37 => ⟨S16x2048x8x8, .f32⟩
  | 38 => ⟨S16x2048x8x8, .f32⟩
  | 39 => ⟨S16x2048x8x48, .f32⟩
  | 40 => ⟨S16x2048x8x64, .f32⟩
  | 41 => ⟨S_, .f32⟩
  | 42 => ⟨S16x2048x8x64, .f32⟩
  | 43 => ⟨S16x2048x8x64, .f32⟩
  | 44 => ⟨S16x2048x128, .f32⟩
  | 45 => ⟨S16x2048x2x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S2048, .i32⟩
  | 55 => ⟨S2048, .f32⟩
  | 56 => ⟨S2048x1, .f32⟩
  | 57 => ⟨S1x8, .f32⟩
  | 58 => ⟨S2048x8, .f32⟩
  | 59 => ⟨S2048x8, .f32⟩
  | 60 => ⟨S2048x8, .f32⟩
  | 61 => ⟨S2048x8, .f32⟩
  | 62 => ⟨S1x2048x1x8, .f32⟩
  | 63 => ⟨S2048x8, .f32⟩
  | 64 => ⟨S1x2048x1x8, .f32⟩
  | 65 => ⟨S16x2048x2x8, .f32⟩
  | 66 => ⟨S16x2048x2x8, .f32⟩
  | 67 => ⟨S16x2048x2x8, .f32⟩
  | 68 => ⟨S16x2048x2x8, .f32⟩
  | 69 => ⟨S16x2048x2x8, .f32⟩
  | 70 => ⟨S16x2048x2x8, .f32⟩
  | 71 => ⟨S16x2048x2x8, .f32⟩
  | 72 => ⟨S16x2048x2x8, .f32⟩
  | 73 => ⟨S16x2048x2x8, .f32⟩
  | 74 => ⟨S16x2048x2x8, .f32⟩
  | 75 => ⟨S16x2048x2x8, .f32⟩
  | 76 => ⟨S16x2048x2x8, .f32⟩
  | 77 => ⟨S16x2048x2x48, .f32⟩
  | 78 => ⟨S16x2048x2x64, .f32⟩
  | 79 => ⟨S16x2048x128, .f32⟩
  | 80 => ⟨S16x2048x512, .f32⟩
  | 81 => ⟨S16x2048x8x64, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S2048, .i32⟩
  | 91 => ⟨S2048, .f32⟩
  | 92 => ⟨S2048x1, .f32⟩
  | 93 => ⟨S1x8, .f32⟩
  | 94 => ⟨S2048x8, .f32⟩
  | 95 => ⟨S2048x8, .f32⟩
  | 96 => ⟨S2048x8, .f32⟩
  | 97 => ⟨S2048x8, .f32⟩
  | 98 => ⟨S1x2048x1x8, .f32⟩
  | 99 => ⟨S2048x8, .f32⟩
  | 100 => ⟨S1x2048x1x8, .f32⟩
  | 101 => ⟨S16x2048x8x8, .f32⟩
  | 102 => ⟨S16x2048x8x8, .f32⟩
  | 103 => ⟨S16x2048x8x8, .f32⟩
  | 104 => ⟨S16x2048x8x8, .f32⟩
  | 105 => ⟨S16x2048x8x8, .f32⟩
  | 106 => ⟨S16x2048x8x8, .f32⟩
  | 107 => ⟨S16x2048x8x8, .f32⟩
  | 108 => ⟨S16x2048x8x8, .f32⟩
  | 109 => ⟨S16x2048x8x8, .f32⟩
  | 110 => ⟨S16x2048x8x8, .f32⟩
  | 111 => ⟨S16x2048x8x8, .f32⟩
  | 112 => ⟨S16x2048x8x8, .f32⟩
  | 113 => ⟨S16x2048x8x48, .f32⟩
  | 114 => ⟨S16x2048x8x64, .f32⟩
  | 115 => ⟨S16x2048x64, .f32⟩
  | 116 => ⟨S16x2048x1x64, .f32⟩
  | 117 => ⟨S8, .f32⟩
  | 118 => ⟨S8, .f32⟩
  | 119 => ⟨S_, .f32⟩
  | 120 => ⟨S8, .f32⟩
  | 121 => ⟨S8, .f32⟩
  | 122 => ⟨S_, .f32⟩
  | 123 => ⟨S8, .f32⟩
  | 124 => ⟨S8, .f32⟩
  | 125 => ⟨S2048, .i32⟩
  | 126 => ⟨S2048, .f32⟩
  | 127 => ⟨S2048x1, .f32⟩
  | _ => ⟨S16x2048x1024, .f32⟩

abbrev hbmTy0_1 (i : Nat) : BufTy := match i % 128 with
  | 0 => ⟨S1x8, .f32⟩
  | 1 => ⟨S2048x8, .f32⟩
  | 2 => ⟨S2048x8, .f32⟩
  | 3 => ⟨S2048x8, .f32⟩
  | 4 => ⟨S2048x8, .f32⟩
  | 5 => ⟨S1x2048x1x8, .f32⟩
  | 6 => ⟨S2048x8, .f32⟩
  | 7 => ⟨S1x2048x1x8, .f32⟩
  | 8 => ⟨S16x2048x1x8, .f32⟩
  | 9 => ⟨S16x2048x1x8, .f32⟩
  | 10 => ⟨S16x2048x1x8, .f32⟩
  | 11 => ⟨S16x2048x1x8, .f32⟩
  | 12 => ⟨S16x2048x1x8, .f32⟩
  | 13 => ⟨S16x2048x1x8, .f32⟩
  | 14 => ⟨S16x2048x1x8, .f32⟩
  | 15 => ⟨S16x2048x1x8, .f32⟩
  | 16 => ⟨S16x2048x1x8, .f32⟩
  | 17 => ⟨S16x2048x1x8, .f32⟩
  | 18 => ⟨S16x2048x1x8, .f32⟩
  | 19 => ⟨S16x2048x1x8, .f32⟩
  | 20 => ⟨S16x2048x1x48, .f32⟩
  | 21 => ⟨S16x2048x1x64, .f32⟩
  | 22 => ⟨S16x2048x8, .f32⟩
  | 23 => ⟨S16x8x256x512, .f32⟩
  | 24 => ⟨S16x8x512x256, .f32⟩
  | 25 => ⟨S16x8x256x512, .f32⟩
  | 26 => ⟨S16x8x512x256, .f32⟩
  | 27 => ⟨S16x8x256x128, .f32⟩
  | 28 => ⟨S16x8x128x256, .f32⟩
  | 29 => ⟨S16x8x256x8, .f32⟩
  | 30 => ⟨S16x8x8x256, .f32⟩
  | 31 => ⟨S16x2048x128, .f32⟩
  | 32 => ⟨S16x2048x64, .f32⟩
  | 33 => ⟨S_, .f32⟩
  | 34 => ⟨S16x2048x64, .f32⟩
  | 35 => ⟨S16x2048x256, .f32⟩
  | 36 => ⟨S16x8x512x256, .bf16⟩
  | 37 => ⟨S16x8x512x256, .bf16⟩
  | 38 => ⟨S16x8x128x256, .bf16⟩
  | 39 => ⟨S16x2048x256, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_2 : Ref sig .tc := ⟨.hbm, 48, rfl⟩
abbrev main_v43 : Ref sig .tc := ⟨.hbm, 49, rfl⟩
abbrev main_v44 : Ref sig .tc := ⟨.hbm, 50, rfl⟩
abbrev main_cst_3 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_cst_4 : Ref sig .tc := ⟨.hbm, 84, rfl⟩
abbrev main_v77 : Ref sig .tc := ⟨.hbm, 85, rfl⟩
abbrev main_v78 : Ref sig .tc := ⟨.hbm, 86, rfl⟩
abbrev main_cst_5 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_cst_6 : Ref sig .tc := ⟨.hbm, 119, rfl⟩
abbrev main_v110 : Ref sig .tc := ⟨.hbm, 120, rfl⟩
abbrev main_v111 : Ref sig .tc := ⟨.hbm, 121, rfl⟩
abbrev main_cst_7 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩
abbrev main_v145 : Ref sig .tc := ⟨.hbm, 156, rfl⟩
abbrev main_v146 : Ref sig .tc := ⟨.hbm, 157, rfl⟩
abbrev main_v147 : Ref sig .tc := ⟨.hbm, 158, rfl⟩
abbrev main_v148 : Ref sig .tc := ⟨.hbm, 159, rfl⟩
abbrev main_v149 : Ref sig .tc := ⟨.hbm, 160, rfl⟩
abbrev main_cst_8 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩

abbrev nD : Nat := 1
abbrev τ : Topo := Topo.v7x

variable {F : FTy → Type} [FloatOps F]
-- ==== Combine.lean ====
abbrev S64x1280x512 : Shape := ⟨3, ![64, 1280, 512]⟩
abbrev S32768x2 : Shape := ⟨2, ![32768, 2]⟩
abbrev S32768x1024 : Shape := ⟨2, ![32768, 1024]⟩
abbrev S1024 : Shape := ⟨1, ![1024]⟩
abbrev S1x1024 : Shape := ⟨2, ![1, 1024]⟩
abbrev S1x1280x512 : Shape := ⟨3, ![1, 1280, 512]⟩
abbrev S512x2 : Shape := ⟨2, ![512, 2]⟩
abbrev S512x1024 : Shape := ⟨2, ![512, 1024]⟩
abbrev S1280x512 : Shape := ⟨2, ![1280, 512]⟩
abbrev S1280x1024 : Shape := ⟨2, ![1280, 1024]⟩
abbrev S512x1280 : Shape := ⟨2, ![512, 1280]⟩
abbrev S512x1 : Shape := ⟨2, ![512, 1]⟩
abbrev S512 : Shape := ⟨1, ![512]⟩

abbrev nBuf : Space → Nat
  | .hbm => 9
  | .vmem => 12
  | .smem => 0
  | _ => 0

abbrev bufTy : (tb : Table) → Fin (tcTables nBuf tb) → BufTy
  | .hbm, ⟨0, _⟩ => ⟨S64x1280x512, .i32⟩
  | .hbm, ⟨1, _⟩ => ⟨S32768x2, .i32⟩
  | .hbm, ⟨2, _⟩ => ⟨S32768x2, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S32768x1024, .f32⟩
  | .local _ .vmem, ⟨0, _⟩ => ⟨S1x1280x512, .i32⟩
  | .local _ .vmem, ⟨1, _⟩ => ⟨S1x1280x512, .i32⟩
  | .local _ .vmem, ⟨2, _⟩ => ⟨S512x2, .i32⟩
  | .local _ .vmem, ⟨3, _⟩ => ⟨S512x2, .i32⟩
  | .local _ .vmem, ⟨4, _⟩ => ⟨S512x2, .f32⟩
  | .local _ .vmem, ⟨5, _⟩ => ⟨S512x2, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S64x1280x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1280x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S64x1280x512 : Shape := ⟨3, ![64, 1280, 512]⟩
abbrev S32768x2 : Shape := ⟨2, ![32768, 2]⟩
abbrev S32768x1024 : Shape := ⟨2, ![32768, 1024]⟩
abbrev S1024 : Shape := ⟨1, ![1024]⟩
abbrev S_ : Shape := ⟨0, ![]⟩
abbrev S64x1280x1024 : Shape := ⟨3, ![64, 1280, 1024]⟩
abbrev S81920x1024 : Shape := ⟨2, ![81920, 1024]⟩
abbrev S64x512 : Shape := ⟨2, ![64, 512]⟩
abbrev S32768 : Shape := ⟨1, ![32768]⟩
abbrev S32768x1 : Shape := ⟨2, ![32768, 1]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S64x1280x512, .i32⟩
  | .hbm, ⟨1, _⟩ => ⟨S32768x2, .i32⟩
  | .hbm, ⟨2, _⟩ => ⟨S32768x2, .f32⟩
  | .hbm, ⟨3, _⟩ => ⟨S32768x1024, .f32⟩
  | .hbm, ⟨4, _⟩ => ⟨S1024, .f32⟩
  | .hbm, ⟨5, _⟩ => ⟨S1024, .f32⟩
  | .hbm, ⟨6, _⟩ => ⟨S_, .i32⟩
  | .hbm, ⟨7, _⟩ => ⟨S64x1280x512, .i32⟩
  | .hbm, ⟨8, _⟩ => ⟨S64x1280x512, .i32⟩
  | .hbm, ⟨9, _⟩ => ⟨S64x1280x512, .f32⟩
  | .hbm, ⟨10, _⟩ => ⟨S_, .i32⟩
  | .hbm, ⟨11, _⟩ => ⟨S64x1280x512, .i32⟩
  | .hbm, ⟨12, _⟩ => ⟨S64x1280x512, .i32⟩
  | .hbm, ⟨13, _⟩ => ⟨S64x1280x512, .f32⟩
  | .hbm, ⟨14, _⟩ => ⟨S64x1280x1024, .f32⟩
  | .hbm, ⟨15, _⟩ => ⟨S81920x1024, .f32⟩
  | .hbm, ⟨16, _⟩ => ⟨S64x512, .i32⟩
  | .hbm, ⟨17, _⟩ => ⟨S32768, .i32⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768x1, .f32⟩
  | .hbm, ⟨22, _⟩ => ⟨S32768x1, .i32⟩
  | .hbm, ⟨23, _⟩ => ⟨S32768, .i32⟩
  | .hbm, ⟨24, _⟩ => ⟨S32768, .i32⟩
  | .hbm, ⟨25, _⟩ => ⟨S_, .i32⟩
  | .hbm, ⟨26, _⟩ => ⟨S32768, .i32⟩
  | .hbm, ⟨27, _⟩ => ⟨S32768, .i1⟩
  | .hbm, ⟨28, _⟩ => ⟨S_, .i32⟩
  | .hbm, ⟨29, _⟩ => ⟨S32768, .i32⟩
  | .hbm, ⟨30, _⟩ => ⟨S32768, .i32⟩
  | .hbm, ⟨31, _⟩ => ⟨S32768, .i32⟩
  | .hbm, ⟨32, _⟩ => ⟨S32768x1, .i32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1, .f32⟩
  | .hbm, ⟨37, _⟩ => ⟨S32768x1, .i32⟩
  | .hbm, ⟨38, _⟩ => ⟨S32768, .i32⟩
  | .hbm, ⟨39, _⟩ => ⟨S32768, .i32⟩
  | .hbm, ⟨40, _⟩ => ⟨S_, .i32⟩
  | .hbm, ⟨41, _⟩ => ⟨S32768, .i32⟩
  | .hbm, ⟨42, _⟩ => ⟨S32768, .i1⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S32768, .i32⟩
  | .hbm, ⟨47, _⟩ => ⟨S32768x1, .i32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S_, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S_, .f32⟩
  | .hbm, ⟨69, _⟩ => ⟨S32768x1, .f32⟩
  | .hbm, ⟨70, _⟩ => ⟨S32768x1, .f32⟩
  | .hbm, ⟨71, _⟩ => ⟨S32768x1024, .f32⟩
  | .hbm, ⟨72, _⟩ => ⟨S32768x1024, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S32768x1, .f32⟩
  | .hbm, ⟨77, _⟩ => ⟨S32768x1024, .f32⟩
  | .hbm, ⟨78, _⟩ => ⟨S32768x1024, .f32⟩
  | .hbm, ⟨79, _⟩ => ⟨S1x1024, .f32⟩
  | .hbm, ⟨80, _⟩ => ⟨S32768x1024, .f32⟩
  | .hbm, ⟨81, _⟩ => ⟨S32768x1024, .f32⟩
  | .hbm, ⟨82, _⟩ => ⟨S1x1024, .f32⟩
  | .hbm, ⟨83, _⟩ => ⟨S32768x1024, .f32⟩
  | .hbm, ⟨84, _⟩ => ⟨S32768x1024, .f32⟩
  | _, _ => ⟨S64x1280x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]
-- ==== Proof.Reference.lean ====
module

public import proofs.«01_k».proof.Defs
public import proofs.«01_k».proof.Proof.Gen.MixReferenceIdeal.Run
public import Idealize.ShloMosaic.Lib.Claim
public import Idealize.ShloMosaic.Lib.Quiescent

/-! The reference's run leaves its arguments as they were, and it has no counter to leave. -/

@[expose] public section

set_option maxRecDepth 16384

noncomputable section

namespace Cert.Proof

open Idealize.ShloMosaic Idealize.ShloMosaic.TcCoe Idealize.SL.Sem

/-- The reference ends with its arguments unchanged and every counter at zero. -/
theorem reference_runs : Cert.quiescent_MixReferenceIdeal (hMixReferenceIdeal := Cert.MixReferenceIdeal.Gen.facts) := by
  intro m g _
  exact (θ_run _ _ _).mono (fun r h => ⟨fun c => (h c).2, sem_eq_zero_of_no_sems (by decide) r.2⟩) (Cert.MixReferenceIdeal.Value.run m g)

end Cert.Proof

end
-- ==== Proof.Row.lean ====
module

public import proofs.«01_k».proof.Proof.Gen.MixIdeal.Skeleton
public import proofs.«01_k».proof.Proof.Gen.MixReferenceIdeal.Run
public import Idealize.ShloMosaic.Lib.Pointwise

/-! One token's row of the mixer, as a function of the row of `x`, the row the attention gives, the gated products of
    the two tokens before it and the weights. The kernel's block and the reference's array are both this function, row by
    row. -/

@[expose] public section

set_option maxRecDepth 16384

noncomputable section

namespace Cert.MixRow

open Idealize.ShloMosaic Idealize.ShloMosaic.TcCoe Idealize.SL.Sem

/-- The product the convolution runs over: the third projection times the first. `wc` holds the three projections'
    columns side by side. -/
def gated (xr : Fin 1024 → EReal) (wc : Fin 1024 → Fin 1536 → EReal) (j : Fin 512) : EReal :=
  (∑ k, xr k * wc k ⟨1024 + j.val, by omega⟩) * (∑ k, xr k * wc k ⟨j.val, by omega⟩)

/-- The short convolution's result, gated by the second projection. -/
def conv (xr : Fin 1024 → EReal) (u2 u1 : Fin 512 → EReal) (wc : Fin 1024 → Fin 1536 → EReal)
    (cw : Fin 3 → Fin 512 → EReal) (j : Fin 512) : EReal :=
  (∑ k, xr k * wc k ⟨512 + j.val, by omega⟩) * (cw 0 j * u2 j + cw 1 j * u1 j + cw 2 j * gated xr wc j)

/-- One gate. -/
def gate (xr : Fin 1024 → EReal) (wg : Fin 1024 → Fin 2048 → EReal) (gb : Fin 2048 → EReal) (j : Fin 2048) : EReal :=
  Ideal.div 1 (1 + Ideal.exp (-((∑ k, xr k * wg k j) + gb j)))

/-- The two gated branches, added. -/
def merged (xr : Fin 1024 → EReal) (ar u2 u1 : Fin 512 → EReal) (wc : Fin 1024 → Fin 1536 → EReal)
    (wg : Fin 1024 → Fin 2048 → EReal) (gb : Fin 2048 → EReal) (cw : Fin 3 → Fin 512 → EReal)
    (wa wv : Fin 512 → Fin 1024 → EReal) (j : Fin 1024) : EReal :=
  gate xr wg gb ⟨j.val, by omega⟩ * (∑ k, ar k * wa k j)
    + gate xr wg gb ⟨1024 + j.val, by omega⟩ * (∑ k, conv xr u2 u1 wc cw k * wv k j)

/-- The row the layer norm is taken of: the scaled residual plus the mixed branches. -/
def resid (xr mr : Fin 1024 → EReal) (wo : Fin 1024 → Fin 1024 → EReal) (j : Fin 1024) : EReal :=
  Ideal.ofBits .f32 0x3F9837F0#32 * xr j + ∑ k, mr k * wo k j

/-- The mean of a row. -/
def mean (v : Fin 1024 → EReal) : EReal := Ideal.div (∑ k, v k) (Ideal.ofBits .f32 0x44800000#32)

/-- The layer norm of a row. -/
def norm (v g b : Fin 1024 → EReal) (j : Fin 1024) : EReal :=
  (v j - mean v) * Ideal.rsqrt (mean (fun k => (v k - mean v) * (v k - mean v)) + Ideal.ofBits .f32 0x3727C5AC#32) * g j
    + b j

end Cert.MixRow

end
-- ==== Proof.BlockRow.lean ====
module

public import proofs.«01_k».proof.Proof.Row

/-! What the kernel computes over one block of 512 tokens, one token at a time. -/

@[expose] public section

set_option maxRecDepth 16384

noncomputable section

namespace Cert.MixIdeal.Rows

open Idealize.ShloMosaic Idealize.ShloMosaic.TcCoe Idealize.SL.Sem
open Cert.MixIdeal Cert.MixIdeal.Gen

/-- The product the convolution runs over. -/
theorem gated_at (x : Vec Ideal S512x1024 .f32) (wc : Vec Ideal S1024x1536 .bf16) (a j : Fin 512) :
    k0_pay6 (F := Ideal) x wc (ix2 a j) = Cert.MixRow.gated (fun k => x (ix2 a k)) (fun p q => wc (ix2 p q)) j := by
  pointwise [k0_pay6, k0_pay5, k0_pay4, k0_pay3, Cert.MixRow.gated]

/-- What is stored of it after the eight kept rows. -/
theorem stored_at (x : Vec Ideal S512x1024 .f32) (wc : Vec Ideal S1024x1536 .bf16) (a j : Fin 512) :
    k0_pay7 (F := Ideal) x wc (ix2 a j) = Cert.MixRow.gated (fun k => x (ix2 a k)) (fun p q => wc (ix2 p q)) j := by
  pointwise [k0_pay7, gated_at]

/-- What is stored of it in the eight kept rows. -/
theorem kept_at (u : FVec Ideal S512x512 .f32) (a : Fin 8) (j : Fin 512) :
    k0_pay9 (F := Ideal) u (ix2 a j) = u (ix2 ⟨504 + a.val, by omega⟩ j) := by
  pointwise [k0_pay9]

/-- The rows stored before a sequence's first block are zero. -/
theorem cleared_at (a : Fin 8) (j : Fin 512) : k0_pay2 (F := Ideal) (ix2 a j) = 0 := by
  pointwise [k0_pay2]

/-- The gated branches, added. -/
theorem merged_at (x : Vec Ideal S512x1024 .f32) (at' : Vec Ideal S512x512 .bf16) (wc : Vec Ideal S1024x1536 .bf16) (wg : Vec Ideal S1024x2048 .bf16)
    (gb : Vec Ideal S1x2048 .f32) (c0 c1 c2 : Vec Ideal S1x512 .f32) (wa wv : Vec Ideal S512x1024 .bf16)
    (s1 s2 : Vec Ideal S512x512 .f32) (a : Fin 512) (j : Fin 1024) :
    k0_pay10 (F := Ideal) (k0_pay4 x) (k0_pay5 x wc) (k0_pay6 x wc) (k0_pay8 s1 s2 c0 c1) c2 wg gb at' wa wv (ix2 a j)
      = Cert.MixRow.merged (fun k => x (ix2 a k)) (fun k => at' (ix2 a k)) (fun k => s2 (ix2 a k)) (fun k => s1 (ix2 a k))
          (fun p q => wc (ix2 p q)) (fun p q => wg (ix2 p q)) (fun q => gb (ix2 0 q))
          (fun p q => if p = 0 then c0 (ix2 0 q) else if p = 1 then c1 (ix2 0 q) else c2 (ix2 0 q))
          (fun p q => wa (ix2 p q)) (fun p q => wv (ix2 p q)) j := by
  have e : ∀ q : Fin 512, k0_pay5 (F := Ideal) x wc (ix2 a ⟨512 + q.val, by omega⟩) = ∑ k, x (ix2 a k) * wc (ix2 k ⟨512 + q.val, by omega⟩) := by
    intro q
    pointwise [k0_pay5, k0_pay4, k0_pay3]
  pointwise [k0_pay10, k0_pay8, Cert.MixRow.merged, Cert.MixRow.gate, Cert.MixRow.conv, gated_at, k0_pay4, k0_pay3]
  simp only [e, zero_sub]

/-- The layer norm of the residual stream. -/
theorem norm_at (x : FVec Ideal S512x1024 .f32) (mg : FVec Ideal S512x1024 .bf16) (wo : Vec Ideal S1024x1024 .bf16)
    (g b : Vec Ideal S1x1024 .f32) (a : Fin 512) (j : Fin 1024) :
    k0_pay11 (F := Ideal) x mg wo g b (ix2 a j)
      = Cert.MixRow.norm (Cert.MixRow.resid (fun k => x (ix2 a k)) (fun k => mg (ix2 a k)) (fun p q => wo (ix2 p q)))
          (fun k => g (ix2 0 k)) (fun k => b (ix2 0 k)) j := by
  pointwise [k0_pay11, Cert.MixRow.norm, Cert.MixRow.mean, Cert.MixRow.resid]

end Cert.MixIdeal.Rows

end
-- ==== Proof.RefRow.lean ====
module

public import proofs.«01_k».proof.Proof.Row

/-! The reference's result, one token at a time. -/

@[expose] public section

set_option maxRecDepth 16384

noncomputable section

namespace Cert.MixReferenceIdeal.Rows

open Idealize.ShloMosaic Idealize.ShloMosaic.TcCoe Idealize.SL.Sem
open Cert.MixReferenceIdeal Cert.MixReferenceIdeal.Gen

/-- All the projections. -/
def proj (x : FVec Ideal S16x2048x1024 .f32) (w : FVec Ideal S1024x4936 .f32) : FVec Ideal S32768x4936 .f32 :=
  Host.dotGeneral (F := Ideal) dot_S32768x1024_S1024x4936_S32768x4936_1_0_0_1_n_n none (shapeCast S32768x1024 x shapeCasts_S16x2048x1024_S32768x1024) w

/-- The product the convolution runs over, per sequence. -/
def prod (p : FVec Ideal S32768x4936 .f32) : FVec Ideal S32768x512 .f32 :=
  mulf (extractStridedSlice S32768x512 ![0, 2376] p slices_S32768x4936_S32768x512_0_2376)
    (extractStridedSlice S32768x512 ![0, 1352] p slices_S32768x4936_S32768x512_0_1352)

/-- … with two zero rows before each sequence. -/
def padded (u : FVec Ideal S32768x512 .f32) : FVec Ideal S16x2050x512 .f32 :=
  concatenate S16x2050x512 1 [⟨S16x2x512, (broadcastInDim S16x2x512 ![] bcast_S_S16x2x512 (constant (F := Ideal) S_ .f32 0x00000000#32))⟩,
    ⟨S16x2048x512, (shapeCast _ u shapeCasts_S32768x512_S16x2048x512)⟩] concatenates_S16x2x512_S16x2048x512_S16x2050x512_d1

/-- The gated convolution. -/
def convd (p : FVec Ideal S32768x4936 .f32) (q : FVec Ideal S16x2050x512 .f32) (cw : FVec Ideal S3x512 .f32) : FVec Ideal S32768x512 .f32 :=
  mulf (extractStridedSlice S32768x512 ![0, 1864] p slices_S32768x4936_S32768x512_0_1864)
   (shapeCast S32768x512 (addf (addf
     (mulf (broadcastInDim S16x2048x512 ![0, 1, 2] bcast_S1x1x512_S16x2048x512_0_1_2 (broadcastInDim S1x1x512 ![2] bcast_S512_S1x1x512_2 (shapeCast S512 (extractStridedSlice S1x512 ![0, 0] cw slices_S3x512_S1x512_0_0) shapeCasts_S1x512_S512))) (extractStridedSlice S16x2048x512 ![0, 0, 0] q slices_S16x2050x512_S16x2048x512_0_0_0))
     (mulf (broadcastInDim S16x2048x512 ![0, 1, 2] bcast_S1x1x512_S16x2048x512_0_1_2 (broadcastInDim S1x1x512 ![2] bcast_S512_S1x1x512_2 (shapeCast S512 (extractStridedSlice S1x512 ![1, 0] cw slices_S3x512_S1x512_1_0) shapeCasts_S1x512_S512))) (extractStridedSlice S16x2048x512 ![0, 1, 0] q slices_S16x2050x512_S16x2048x512_0_1_0)))
     (mulf (broadcastInDim S16x2048x512 ![0, 1, 2] bcast_S1x1x512_S16x2048x512_0_1_2 (broadcastInDim S1x1x512 ![2] bcast_S512_S1x1x512_2 (shapeCast S512 (extractStridedSlice S1x512 ![2, 0] cw slices_S3x512_S1x512_2_0) shapeCasts_S1x512_S512))) (extractStridedSlice S16x2048x512 ![0, 2, 0] q slices_S16x2050x512_S16x2048x512_0_2_0)))
    shapeCasts_S16x2048x512_S32768x512)

/-- The gates. -/
def gates (p : FVec Ideal S32768x4936 .f32) (gb : FVec Ideal S2048 .f32) : FVec Ideal S32768x2048 .f32 :=
  Host.divf (broadcastInDim S32768x2048 ![] bcast_S_S32768x2048 (constant (F := Ideal) S_ .f32 0x3F800000#32))
   (addf (broadcastInDim S32768x2048 ![] bcast_S_S32768x2048 (constant (F := Ideal) S_ .f32 0x3F800000#32))
     (Host.exp (Host.negf (addf (extractStridedSlice S32768x2048 ![0, 2888] p slices_S32768x4936_S32768x2048_0_2888)
       (broadcastInDim S32768x2048 ![0, 1] bcast_S1x2048_S32768x2048_0_1 (broadcastInDim S1x2048 ![1] bcast_S2048_S1x2048_1 gb))))))

/-- The two gated branches, added. -/
def merge (g : FVec Ideal S32768x2048 .f32) (a : FVec Ideal S16x2048x512 .bf16) (cv : FVec Ideal S32768x512 .f32)
    (wa wv : FVec Ideal S512x1024 .f32) : FVec Ideal S32768x1024 .f32 :=
  addf (mulf (extractStridedSlice S32768x1024 ![0, 0] g slices_S32768x2048_S32768x1024_0_0)
     (Host.dotGeneral (F := Ideal) dot_S32768x512_S512x1024_S32768x1024_1_0_0_1_n_n none (extf .f32 (shapeCast S32768x512 a shapeCasts_S16x2048x512_S32768x512) bitsLt_bf16_f32) wa))
   (mulf (extractStridedSlice S32768x1024 ![0, 1024] g slices_S32768x2048_S32768x1024_0_1024)
     (Host.dotGeneral (F := Ideal) dot_S32768x512_S512x1024_S32768x1024_1_0_0_1_n_n none cv wv))

/-- The residual stream the layer norm is taken of. -/
def res (x : FVec Ideal S16x2048x1024 .f32) (mg : FVec Ideal S32768x1024 .f32) (wo : FVec Ideal S1024x1024 .f32) : FVec Ideal S32768x1024 .f32 :=
  addf (mulf (broadcastInDim S32768x1024 ![] bcast_S_S32768x1024 (constant (F := Ideal) S_ .f32 0x3F9837F0#32)) (shapeCast S32768x1024 x shapeCasts_S16x2048x1024_S32768x1024))
    (Host.dotGeneral (F := Ideal) dot_S32768x1024_S1024x1024_S32768x1024_1_0_0_1_n_n none mg wo)

/-- Each row's mean, as a column. -/
def mean (v : FVec Ideal S32768x1024 .f32) : FVec Ideal S32768x1 .f32 :=
  Host.divf (broadcastInDim S32768x1 ![0] bcast_S32768_S32768x1_0 (Host.reduceAdd v (constant (F := Ideal) S_ .f32 0x00000000#32) reducesTo_S32768x1024_S32768_d1 h_S_))
    (broadcastInDim S32768x1 ![] bcast_S_S32768x1 (constant (F := Ideal) S_ .f32 0x44800000#32))

/-- The layer norm. -/
def ln (v : FVec Ideal S32768x1024 .f32) (g b : FVec Ideal S1024 .f32) : FVec Ideal S32768x1024 .f32 :=
  addf (mulf (mulf (subf v (broadcastInDim S32768x1024 ![0, 1] bcast_S32768x1_S32768x1024_0_1 (mean v)))
     (broadcastInDim S32768x1024 ![0, 1] bcast_S32768x1_S32768x1024_0_1 (Host.rsqrt (addf
       (mean (mulf (subf v (broadcastInDim S32768x1024 ![0, 1] bcast_S32768x1_S32768x1024_0_1 (mean v))) (subf v (broadcastInDim S32768x1024 ![0, 1] bcast_S32768x1_S32768x1024_0_1 (mean v)))))
       (broadcastInDim S32768x1 ![] bcast_S_S32768x1 (constant (F := Ideal) S_ .f32 0x3727C5AC#32))))))
     (broadcastInDim S32768x1024 ![0, 1] bcast_S1x1024_S32768x1024_0_1 (broadcastInDim S1x1024 ![1] bcast_S1024_S1x1024_1 g)))
   (broadcastInDim S32768x1024 ![0, 1] bcast_S1x1024_S32768x1024_0_1 (broadcastInDim S1x1024 ![1] bcast_S1024_S1x1024_1 b))

/-- The whole reference over its arrays. -/
def whole (x : FVec Ideal S16x2048x1024 .f32) (a : FVec Ideal S16x2048x512 .bf16) (w : FVec Ideal S1024x4936 .f32)
    (gb : FVec Ideal S2048 .f32) (wa wv : FVec Ideal S512x1024 .f32) (cw : FVec Ideal S3x512 .f32) (wo : FVec Ideal S1024x1024 .f32)
    (g b : FVec Ideal S1024 .f32) : FVec Ideal S32768x1024 .f32 :=
  ln (res x (merge (gates (proj x w) gb) a (convd (proj x w) (padded (prod (proj x w))) cw) wa wv) wo) g b

set_option maxHeartbeats 1600000 in
/-- The reference's result is the staged form above. -/
theorem result_eq (m : (ℓ : Loc nD τ sig) → Buf (Elt Ideal) ℓ) (c : Dev nD) :
    Cert.MixReferenceIdeal.Value.res_main_v77 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) := rfl

/-- Token `r`'s row of `x`. -/
def xrow (x : FVec Ideal S16x2048x1024 .f32) (r : Fin 32768) (k : Fin 1024) : EReal :=
  x (ix3 (⟨r.val / 2048, by omega⟩ : Fin 16) (⟨r.val % 2048, by omega⟩ : Fin 2048) k)

/-- Token `r`'s row of the attention's output. -/
def arow (a : FVec Ideal S16x2048x512 .bf16) (r : Fin 32768) (k : Fin 512) : EReal :=
  a (ix3 (⟨r.val / 2048, by omega⟩ : Fin 16) (⟨r.val % 2048, by omega⟩ : Fin 2048) k)

/-- The columns of the three convolution projections. -/
def wcols (w : FVec Ideal S1024x4936 .f32) (k : Fin 1024) (j : Fin 1536) : EReal := w (ix2 k ⟨1352 + j.val, by omega⟩)

/-- The columns of the gates. -/
def wgate (w : FVec Ideal S1024x4936 .f32) (k : Fin 1024) (j : Fin 2048) : EReal := w (ix2 k ⟨2888 + j.val, by omega⟩)

/-- The gated product of the token `d` before token `r` of its sequence, zero before the sequence's first token. -/
def before (x : FVec Ideal S16x2048x1024 .f32) (w : FVec Ideal S1024x4936 .f32) (d : ℕ) (r : Fin 32768) (j : Fin 512) : EReal :=
  if d ≤ r.val % 2048 then Cert.MixRow.gated (xrow x ⟨r.val - d, by omega⟩) (wcols w) j else 0

/-- A gated product depends on the token's number alone. -/
theorem gated_congr (x : FVec Ideal S16x2048x1024 .f32) (w : FVec Ideal S1024x4936 .f32) (j : Fin 512) (a b : ℕ)
    (ha : a < 32768) (hb : b < 32768) (h : a = b) :
    Cert.MixRow.gated (xrow x ⟨a, ha⟩) (wcols w) j = Cert.MixRow.gated (xrow x ⟨b, hb⟩) (wcols w) j := by
  subst h; rfl

/-- The product the convolution runs over, at a token. -/
theorem prod_at (x : FVec Ideal S16x2048x1024 .f32) (w : FVec Ideal S1024x4936 .f32) (r : Fin 32768) (j : Fin 512) :
    prod (proj x w) (ix2 r j) = Cert.MixRow.gated (xrow x r) (wcols w) j := by
  pointwise [prod, proj, Cert.MixRow.gated, xrow, wcols]
  have e : ∀ h h', (⟨1352 + (1024 + j.val), h⟩ : Fin 4936) = ⟨2376 + j.val, h'⟩ := fun _ _ => Fin.ext (by show _ = _; dsimp only; omega)
  simp only [e _ (by omega)]

/-- The gated convolution, at a token. -/
theorem convd_at (x : FVec Ideal S16x2048x1024 .f32) (w : FVec Ideal S1024x4936 .f32) (cw : FVec Ideal S3x512 .f32) (r : Fin 32768) (j : Fin 512) :
    convd (proj x w) (padded (prod (proj x w))) cw (ix2 r j)
      = Cert.MixRow.conv (xrow x r) (before x w 2 r) (before x w 1 r) (wcols w) (fun a b => cw (ix2 a b)) j := by
  have e : proj x w (ix2 r ⟨1864 + j.val, by omega⟩) = ∑ k, xrow x r k * wcols w k ⟨512 + j.val, by omega⟩ := by
    have e1 : ∀ h h', (⟨1352 + (512 + j.val), h⟩ : Fin 4936) = ⟨1864 + j.val, h'⟩ := fun _ _ => Fin.ext (by show _ = _; dsimp only; omega)
    pointwise [proj, xrow, wcols]
    simp only [e1 _ (by omega)]
  unfold convd padded
  pointwise [Cert.MixRow.conv]
  rw [e]
  simp only [prod_at]
  congr 1
  congr 1
  congr 1
  · congr 1
    unfold before
    by_cases h : r.val % 2048 < 2
    · exact (dif_pos h).trans (if_neg (by omega)).symm
    · have hc : 2 ≤ r.val % 2048 := by omega
      exact (dif_neg h).trans ((gated_congr x w j _ _ _ _ (by omega)).trans (if_pos hc).symm)
  · congr 1
    unfold before
    by_cases h : 1 + r.val % 2048 < 2
    · exact (dif_pos h).trans (if_neg (by omega)).symm
    · have hc : 1 ≤ r.val % 2048 := by omega
      exact (dif_neg h).trans ((gated_congr x w j _ _ _ _ (by omega)).trans (if_pos hc).symm)

/-- The gates, at a token. -/
theorem gates_at (x : FVec Ideal S16x2048x1024 .f32) (w : FVec Ideal S1024x4936 .f32) (gb : FVec Ideal S2048 .f32) (r : Fin 32768) (j : Fin 2048) :
    gates (proj x w) gb (ix2 r j) = Cert.MixRow.gate (xrow x r) (wgate w) (fun k => gb (ix1 k)) j := by
  pointwise [gates, proj, Cert.MixRow.gate, xrow, wgate]

/-- A row's mean. -/
theorem mean_at (v : FVec Ideal S32768x1024 .f32) (r : Fin 32768) (z : Fin 1) :
    mean v (ix2 r z) = Cert.MixRow.mean (fun k => v (ix2 r k)) := by
  pointwise [mean, Cert.MixRow.mean]

/-- The layer norm, at a token. -/
theorem ln_at (v : FVec Ideal S32768x1024 .f32) (g b : FVec Ideal S1024 .f32) (r : Fin 32768) (j : Fin 1024) :
    ln v g b (ix2 r j) = Cert.MixRow.norm (fun k => v (ix2 r k)) (fun k => g (ix1 k)) (fun k => b (ix1 k)) j := by
  pointwise [ln, Cert.MixRow.norm, mean_at]

/-- The residual stream, at a token. -/
theorem res_at (x : FVec Ideal S16x2048x1024 .f32) (mg : FVec Ideal S32768x1024 .f32) (wo : FVec Ideal S1024x1024 .f32) (r : Fin 32768) (j : Fin 1024) :
    res x mg wo (ix2 r j) = Cert.MixRow.resid (xrow x r) (fun k => mg (ix2 r k)) (fun a b => wo (ix2 a b)) j := by
  pointwise [res, Cert.MixRow.resid, xrow]

/-- The gated branches, at a token. -/
theorem merge_at (g : FVec Ideal S32768x2048 .f32) (a : FVec Ideal S16x2048x512 .bf16) (cv : FVec Ideal S32768x512 .f32)
    (wa wv : FVec Ideal S512x1024 .f32) (r : Fin 32768) (j : Fin 1024) :
    merge g a cv wa wv (ix2 r j) = g (ix2 r ⟨j.val, by omega⟩) * (∑ k, arow a r k * wa (ix2 k j))
      + g (ix2 r ⟨1024 + j.val, by omega⟩) * (∑ k, cv (ix2 r k) * wv (ix2 k j)) := by
  pointwise [merge, arow]

/-- The reference at a token: the row function of that token's rows. -/
theorem whole_at (x : FVec Ideal S16x2048x1024 .f32) (a : FVec Ideal S16x2048x512 .bf16) (w : FVec Ideal S1024x4936 .f32)
    (gb : FVec Ideal S2048 .f32) (wa wv : FVec Ideal S512x1024 .f32) (cw : FVec Ideal S3x512 .f32) (wo : FVec Ideal S1024x1024 .f32)
    (g b : FVec Ideal S1024 .f32) (r : Fin 32768) (j : Fin 1024) :
    whole x a w gb wa wv cw wo g b (ix2 r j)
      = Cert.MixRow.norm (Cert.MixRow.resid (xrow x r)
          (Cert.MixRow.merged (xrow x r) (arow a r) (before x w 2 r) (before x w 1 r) (wcols w) (wgate w) (fun k => gb (ix1 k))
            (fun p q => cw (ix2 p q)) (fun p q => wa (ix2 p q)) (fun p q => wv (ix2 p q)))
          (fun p q => wo (ix2 p q))) (fun k => g (ix1 k)) (fun k => b (ix1 k)) j := by
  unfold whole
  simp only [ln_at, res_at, merge_at, gates_at, convd_at]
  rfl

end Cert.MixReferenceIdeal.Rows

end
-- ==== Proof.Entry.lean ====
module

public import proofs.«01_k».proof.Proof.Gen.MixIdeal.Frame
public import proofs.«01_k».proof.Proof.BlockRow
public import proofs.«01_k».proof.Proof.RefRow
public import Idealize.ShloMosaic.Lib.Pipeline.ValueKit
public import Idealize.ShloMosaic.Lib.Claim

/-! The blocks the kernel reads, in terms of the arguments. -/

@[expose] public section

set_option maxRecDepth 16384

noncomputable section

open Idealize.ShloMosaic Idealize.ShloMosaic.TcCoe Idealize.SL.Sem
open Idealize.ShloMosaic.Pipeline (Dat)

namespace Cert.MixIdeal.Entry

open Cert.MixIdeal Cert.MixIdeal.Gen
open Cert.MixReferenceIdeal.Rows (xrow arow wcols wgate)

variable (m : (ℓ : Loc nD τ sig) → Buf (Elt Ideal) ℓ)

/-- Every window's block index, at every point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_14.index t = ![t.val, 0] ∧ t.val < 64 :=
  (by decide +kernel : ∀ t : Fin grid0.N, _)

/-- A block of the mixer's input is 512 rows of it. -/
theorem x_at (c : Dev nD) (t : Fin cfg0.N) (a : Fin 512) (k : Fin 1024) (h : 512 * t.val + a.val < 32768) :
    iblk m c 0 t (ix2 a k) = xrow (m ((c : Thread nD τ).loc main_arg0)) ⟨512 * t.val + a.val, h⟩ k := by
  unfold xrow
  blk_simp [iblk, idx t]
  entry_read
  pointwise [idx t]
  blk_ext [idx t]

/-- A block of the attention's output is 512 rows of it. -/
theorem attn_at (c : Dev nD) (t : Fin cfg0.N) (a : Fin 512) (k : Fin 512) (h : 512 * t.val + a.val < 32768) :
    iblk m c 1 t (ix2 a k) = arow (m ((c : Thread nD τ).loc main_arg1)) ⟨512 * t.val + a.val, h⟩ k := by
  unfold arow
  blk_simp [iblk, idx t]
  entry_read
  pointwise [idx t]
  blk_ext [idx t]

/-- The convolution's columns of the input projection. -/
theorem wc_at (c : Dev nD) (t : Fin cfg0.N) (k : Fin 1024) (q : Fin 1536) :
    iblk m c 2 t (ix2 k q) = wcols (m ((c : Thread nD τ).loc main_arg2)) k q := by
  unfold wcols
  blk_simp [iblk, idx t]
  entry_read
  pointwise [idx t]
  blk_ext [idx t]

/-- The gates' columns of the input projection. -/
theorem wg_at (c : Dev nD) (t : Fin cfg0.N) (k : Fin 1024) (q : Fin 2048) :
    iblk m c 3 t (ix2 k q) = wgate (m ((c : Thread nD τ).loc main_arg2)) k q := by
  unfold wgate
  blk_simp [iblk, idx t]
  entry_read
  pointwise [idx t]
  blk_ext [idx t]

/-- The gates' bias. -/
theorem gb_at (c : Dev nD) (t : Fin cfg0.N) (q : Fin 2048) :
    iblk m c 4 t (ix2 0 q) = m ((c : Thread nD τ).loc main_arg3) (ix1 q) := by
  blk_simp [iblk, idx t]
  entry_read
  pointwise [idx t]
  blk_ext [idx t]

/-- The norm's scale. -/
theorem g_at (c : Dev nD) (t : Fin cfg0.N) (q : Fin 1024) :
    iblk m c 9 t (ix2 0 q) = m ((c : Thread nD τ).loc main_arg8) (ix1 q) := by
  blk_simp [iblk, idx t]
  entry_read
  pointwise [idx t]
  blk_ext [idx t]

/-- The norm's shift. -/
theorem b_at (c : Dev nD) (t : Fin cfg0.N) (q : Fin 1024) :
    iblk m c 10 t (ix2 0 q) = m ((c : Thread nD τ).loc main_arg9) (ix1 q) := by
  blk_simp [iblk, idx t]
  entry_read
  pointwise [idx t]
  blk_ext [idx t]

/-- The convolution's taps. -/
theorem cw_at (c : Dev nD) (t : Fin cfg0.N) (p : Fin 3) (q : Fin 512) :
    iblk m c 5 t (ix2 p q) = m ((c : Thread nD τ).loc main_arg6) (ix2 p q) := by
  blk_point [iblk, V, idx t]

/-- The attention's up projection. -/
theorem wa_at (c : Dev nD) (t : Fin cfg0.N) (p : Fin 512) (q : Fin 1024) :
    iblk m c 6 t (ix2 p q) = m ((c : Thread nD τ).loc main_arg4) (ix2 p q) := by
  blk_point [iblk, V, idx t]

/-- The convolution's up projection. -/
theorem wv_at (c : Dev nD) (t : Fin cfg0.N) (p : Fin 512) (q : Fin 1024) :
    iblk m c 7 t (ix2 p q) = m ((c : Thread nD τ).loc main_arg5) (ix2 p q) := by
  blk_point [iblk, V, idx t]

/-- The output projection. -/
theorem wo_at (c : Dev nD) (t : Fin cfg0.N) (p : Fin 1024) (q : Fin 1024) :
    iblk m c 8 t (ix2 p q) = m ((c : Thread nD τ).loc main_arg7) (ix2 p q) := by
  blk_point [iblk, V, idx t]

end Cert.MixIdeal.Entry

end
-- ==== Proof.Carry.lean ====
module

public import proofs.«01_k».proof.Proof.Gen.MixIdeal.Frame
public import proofs.«01_k».proof.Proof.BlockRow
public import proofs.«01_k».proof.Proof.Entry
public import Idealize.ShloMosaic.Lib.Pipeline.ValueKit
public import Idealize.ShloMosaic.Lib.WritesUnit

/-! The rows the kernel keeps between blocks: after every block, the gated products of its last eight tokens. -/

@[expose] public section

set_option maxRecDepth 16384

noncomputable section

open Idealize.ShloMosaic Idealize.ShloMosaic.TcCoe Idealize.SL.Sem
open Idealize.ShloMosaic.Pipeline (Dat)

namespace Cert.MixIdeal.Carry

open Cert.MixIdeal Cert.MixIdeal.Gen
open Cert.MixReferenceIdeal.Rows (xrow arow wcols wgate before gated_congr)
open Cert.MixRow (gated merged resid norm)

variable (m : (ℓ : Loc nD τ sig) → Buf (Elt Ideal) ℓ)

/-- The gated products of a block. -/
theorem gated_blk (c : Dev nD) (t : Fin cfg0.N) (a : Fin 512) (j : Fin 512) (h : 512 * t.val + a.val < 32768) :
    gated (fun k => iblk m c 0 t (ix2 a k)) (fun p q => iblk m c 2 t (ix2 p q)) j
      = gated (xrow (m ((c : Thread nD τ).loc main_arg0)) ⟨512 * t.val + a.val, h⟩) (wcols (m ((c : Thread nD τ).loc main_arg2))) j := by
  have e1 : (fun k => iblk m c 0 t (ix2 a k)) = xrow (m ((c : Thread nD τ).loc main_arg0)) ⟨512 * t.val + a.val, h⟩ :=
    funext fun k => Entry.x_at m c t a k h
  have e2 : (fun p q => iblk m c 2 t (ix2 p q)) = wcols (m ((c : Thread nD τ).loc main_arg2)) :=
    funext fun p => funext fun q => Entry.wc_at m c t p q
  rw [e1, e2]

/-- After a block the first eight kept rows are the gated products of its last eight tokens. -/
theorem kept (c : Dev nD) (t : Fin cfg0.N) (i : Fin 8) (j : Fin 512) (h : 512 * t.val + (504 + i.val) < 32768) :
    (outsAt0 m c t.val t.isLt).2.2.2.2.2 (ix2 (⟨i.val, by omega⟩ : Fin 520) j)
      = gated (xrow (m ((c : Thread nD τ).loc main_arg0)) ⟨512 * t.val + (504 + i.val), h⟩) (wcols (m ((c : Thread nD τ).loc main_arg2))) j := by
  have e : k0_pay9 (F := Ideal) (k0_pay6 (F := Ideal) (iblk m c 0 t) (iblk m c 2 t)) (ix2 i j)
      = gated (xrow (m ((c : Thread nD τ).loc main_arg0)) ⟨512 * t.val + (504 + i.val), h⟩) (wcols (m ((c : Thread nD τ).loc main_arg2))) j := by
    rw [Rows.kept_at, Rows.gated_at]
    exact gated_blk m c t ⟨504 + i.val, by omega⟩ j h
  refine Eq.trans ?_ e
  by_cases hc : t.val % 4 = 0
  · rw [outsAt0_A m c t hc]
    frame_out
    rw [← View.read_writes_junk_eq_canon (View.whole cc0_scratch0)]
    exact View.read_writes_cons_rows_of_mem _ _ _ _ _ _ (ix2 i j : S8x512.Idx) rfl (by show _ = _; dsimp; omega) rfl
  · rw [outsAt0_B m c t hc]
    frame_out
    rw [← View.read_writes_junk_eq_canon (View.whole cc0_scratch0)]
    exact View.read_writes_cons_rows_of_mem _ _ _ _ _ _ (ix2 i j : S8x512.Idx) rfl (by show _ = _; dsimp; omega) rfl

/-- A row of the scratch after a block's products are stored from row 8 on. -/
theorem stored_row (f : (View.whole cc0_scratch0).ty.Contents (Elt Ideal)) (inb) (u : S512x512.Idx → EReal) (L) (p : Fin 520) (j : Fin 512) :
    (View.whole cc0_scratch0).read (Elt Ideal) ((View.whole cc0_scratch0).writes (Elt Ideal) f
        ((⟨Rect.unit (s := S520x512) ![8, 0] ![512, 512] inb, u⟩ : View.Piece (Elt Ideal) S520x512 .f32) :: L)) (ix2 p j)
      = if h : 8 ≤ p.val then u (ix2 ⟨p.val - 8, by omega⟩ j)
        else (View.whole cc0_scratch0).read (Elt Ideal) ((View.whole cc0_scratch0).writes (Elt Ideal) f L) (ix2 p j) := by
  by_cases h : 8 ≤ p.val
  · refine Eq.trans ?_ (dif_pos h).symm
    exact View.read_writes_cons_rows_of_mem (View.whole cc0_scratch0) f inb u L (ix2 p j) (ix2 ⟨p.val - 8, by omega⟩ j : S512x512.Idx) rfl (by show p.val = 8 + (p.val - 8); omega) rfl
  · refine Eq.trans ?_ (dif_neg h).symm
    exact View.read_writes_cons_rows_of_not_mem (View.whole cc0_scratch0) f inb u L (ix2 p j) rfl rfl (Or.inl (by show p.val < 8; omega))

/-- … whose older rows are the gated products before the block: the row `8 - d` further down is the product `d` tokens before. -/
theorem row_before (c : Dev nD) (t : Fin cfg0.N) (f : (View.whole cc0_scratch0).ty.Contents (Elt Ideal)) (inb) (L) (d : ℕ) (hd : d ≤ 2)
    (p : Fin 520) (a : Fin 512) (j : Fin 512) (hp : p.val + d = 8 + a.val) (hr : 512 * t.val + a.val < 32768)
    (old : ∀ p : Fin 520, p.val < 8 → 6 ≤ p.val →
      (View.whole cc0_scratch0).read (Elt Ideal) ((View.whole cc0_scratch0).writes (Elt Ideal) f L) (ix2 p j)
        = if h : t.val % 4 = 0 then 0
          else gated (xrow (m ((c : Thread nD τ).loc main_arg0)) ⟨512 * (t.val - 1) + (504 + p.val), by have := (Entry.idx t).2.2.2.2.2.2.2.2.2.2.2.2; omega⟩)
            (wcols (m ((c : Thread nD τ).loc main_arg2))) j) :
    (View.whole cc0_scratch0).read (Elt Ideal) ((View.whole cc0_scratch0).writes (Elt Ideal) f
        ((⟨Rect.unit (s := S520x512) ![8, 0] ![512, 512] inb, k0_pay7 (F := Ideal) (iblk m c 0 t) (iblk m c 2 t)⟩ : View.Piece (Elt Ideal) S520x512 .f32) :: L)) (ix2 p j)
      = before (m ((c : Thread nD τ).loc main_arg0)) (m ((c : Thread nD τ).loc main_arg2)) d ⟨512 * t.val + a.val, hr⟩ j := by
  refine (stored_row f inb _ L p j).trans ?_
  unfold before
  have hq : (512 * t.val + a.val) % 2048 = 512 * (t.val % 4) + a.val := by omega
  by_cases h : 8 ≤ p.val
  · refine (dif_pos h).trans ?_
    have hc : d ≤ (512 * t.val + a.val) % 2048 := by omega
    refine Eq.trans ?_ (if_pos hc).symm
    refine (Rows.stored_at _ _ _ _).trans ((gated_blk m c t ⟨p.val - 8, by omega⟩ j (by dsimp only; omega)).trans (gated_congr _ _ _ _ _ _ _ (by dsimp only; omega)))
  · refine (dif_neg h).trans ((old p (by omega) (by omega)).trans ?_)
    by_cases hc : t.val % 4 = 0
    · refine (dif_pos hc).trans ?_
      have hn : ¬ d ≤ (512 * t.val + a.val) % 2048 := by omega
      exact (if_neg hn).symm
    · refine (dif_neg hc).trans ?_
      have hn : d ≤ (512 * t.val + a.val) % 2048 := by omega
      exact (gated_congr _ _ _ _ _ _ _ (by dsimp only; omega)).trans (if_pos hn).symm

/-- The scratch's older rows at a sequence's first block: zero. -/
theorem old_first (c : Dev nD) (t : Fin cfg0.N) (hc : t.val % 4 = 0) (f : (View.whole cc0_scratch0).ty.Contents (Elt Ideal)) (inb) (j : Fin 512) (p : Fin 520) (hp : p.val < 8) :
    (View.whole cc0_scratch0).read (Elt Ideal) ((View.whole cc0_scratch0).writes (Elt Ideal) f
        [(⟨Rect.unit (s := S520x512) ![0, 0] ![8, 512] inb, k0_pay2 (F := Ideal)⟩ : View.Piece (Elt Ideal) S520x512 .f32)]) (ix2 p j) = (0 : EReal) := by
  refine (View.read_writes_cons_rows_of_mem (View.whole cc0_scratch0) f inb (k0_pay2 (F := Ideal)) [] (ix2 p j) (ix2 ⟨p.val, hp⟩ j : S8x512.Idx) rfl (by show p.val = 0 + p.val; omega) rfl).trans ?_
  exact Rows.cleared_at _ _

/-- A load of the scratch from row `o` on. -/
theorem loaded (X : S520x512.Idx → EReal) (o : ℕ) (inb) (a : Fin 512) (k : Fin 512) (ho : o + a.val < 520) :
    X ((Rect.unit (s := S520x512) ![o, 0] ![512, 512] inb).idx (ix2 a k)) = X (ix2 ⟨o + a.val, ho⟩ k) := by
  refine congrArg X (funext fun b => Fin.ext ((Rect.idx_unit_val _ _ _ _ b).trans ?_))
  fin_cases b
  · rfl
  · exact Nat.zero_add _

/-- The scratch's older rows later in a sequence: what the block before kept. -/
theorem old_later (c : Dev nD) (t : Fin cfg0.N) (hc : ¬ t.val % 4 = 0) (hw : (Memref.whole cc0_scratch0 : Memref sig .tc .vmem S520x512 .f32).IsWhole) (hl) (j : Fin 512) (p : Fin 520) (hp : p.val < 8)
    (hr : 512 * (t.val - 1) + (504 + p.val) < 32768) :
    (View.whole cc0_scratch0).read (Elt Ideal) ((View.whole cc0_scratch0).writes (Elt Ideal) (hw.unread (outsAt0 m c (t.val - 1) hl).2.2.2.2.2) []) (ix2 p j)
      = gated (xrow (m ((c : Thread nD τ).loc main_arg0)) ⟨512 * (t.val - 1) + (504 + p.val), hr⟩) (wcols (m ((c : Thread nD τ).loc main_arg2))) j :=
  (congrFun (hw.read_unread (outsAt0 m c (t.val - 1) hl).2.2.2.2.2) (ix2 p j)).trans (kept m c ⟨t.val - 1, hl⟩ ⟨p.val, hp⟩ j hr)

/-- The kernel's row of a block, from what its operands hold. -/
theorem row_of (a : Fin 512) (j : Fin 1024) (x at' wc wg gb c0 c1 c2 wa wv s1 s2 wo g b) (X : Fin 1024 → EReal) (A U2 U1 : Fin 512 → EReal) (WC : Fin 1024 → Fin 1536 → EReal)
    (WG : Fin 1024 → Fin 2048 → EReal) (GB : Fin 2048 → EReal) (CW : Fin 3 → Fin 512 → EReal) (WA WV : Fin 512 → Fin 1024 → EReal) (WO : Fin 1024 → Fin 1024 → EReal) (G B : Fin 1024 → EReal)
    (hx : ∀ k, x (ix2 a k) = X k) (ha : ∀ k, at' (ix2 a k) = A k) (h2 : ∀ k, s2 (ix2 a k) = U2 k) (h1 : ∀ k, s1 (ix2 a k) = U1 k)
    (hwc : ∀ p q, wc (ix2 p q) = WC p q) (hwg : ∀ p q, wg (ix2 p q) = WG p q) (hgb : ∀ q, gb (ix2 0 q) = GB q)
    (hc0 : ∀ q, c0 (ix2 0 q) = CW 0 q) (hc1 : ∀ q, c1 (ix2 0 q) = CW 1 q) (hc2 : ∀ q, c2 (ix2 0 q) = CW 2 q)
    (hwa : ∀ p q, wa (ix2 p q) = WA p q) (hwv : ∀ p q, wv (ix2 p q) = WV p q) (hwo : ∀ p q, wo (ix2 p q) = WO p q)
    (hg : ∀ q, g (ix2 0 q) = G q) (hb : ∀ q, b (ix2 0 q) = B q) :
    k0_pay11 (F := Ideal) (k0_pay3 (F := Ideal) x) (k0_pay10 (F := Ideal) (k0_pay4 (F := Ideal) x) (k0_pay5 (F := Ideal) x wc) (k0_pay6 (F := Ideal) x wc) (k0_pay8 (F := Ideal) s1 s2 c0 c1) c2 wg gb at' wa wv) wo g b (ix2 a j)
      = norm (resid X (merged X A U2 U1 WC WG GB CW WA WV) WO) G B j := by
  obtain rfl : (fun k => x (ix2 a k)) = X := funext hx
  obtain rfl : (fun k => at' (ix2 a k)) = A := funext ha
  obtain rfl : (fun k => s2 (ix2 a k)) = U2 := funext h2
  obtain rfl : (fun k => s1 (ix2 a k)) = U1 := funext h1
  obtain rfl : (fun p q => wc (ix2 p q)) = WC := funext fun p => funext (hwc p)
  obtain rfl : (fun p q => wg (ix2 p q)) = WG := funext fun p => funext (hwg p)
  obtain rfl : (fun q => gb (ix2 0 q)) = GB := funext hgb
  obtain rfl : (fun p q => wa (ix2 p q)) = WA := funext fun p => funext (hwa p)
  obtain rfl : (fun p q => wv (ix2 p q)) = WV := funext fun p => funext (hwv p)
  obtain rfl : (fun p q => wo (ix2 p q)) = WO := funext fun p => funext (hwo p)
  obtain rfl : (fun q => g (ix2 0 q)) = G := funext hg
  obtain rfl : (fun q => b (ix2 0 q)) = B := funext hb
  obtain rfl : (fun p q => if p = 0 then c0 (ix2 0 q) else if p = 1 then c1 (ix2 0 q) else c2 (ix2 0 q)) = CW := by
    funext p q
    by_cases p0 : p = 0
    · rw [if_pos p0, p0]; exact hc0 q
    · rw [if_neg p0]
      by_cases p1 : p = 1
      · rw [if_pos p1, p1]; exact hc1 q
      · rw [if_neg p1, hc2 q]; congr 1; omega
  refine (Rows.norm_at _ _ _ _ _ _ _).trans ?_
  have e : ∀ k, k0_pay3 (F := Ideal) x (ix2 a k) = x (ix2 a k) := by
    intro k
    pointwise [k0_pay3]
  simp only [Rows.merged_at, e]

/-- One tap of the convolution. -/
theorem tap (c : Dev nD) (t : Fin cfg0.N) (o : Fin 3) (inb) (q : Fin 512) :
    View.ld (iblk m c 5 t) (Rect.unit (s := S3x512) ![o.val, 0] ![1, 512] inb) (ix2 0 q) = m ((c : Thread nD τ).loc main_arg6) (ix2 o q) := by
  refine (congrArg (iblk m c 5 t) (funext fun b => Fin.ext ((Rect.idx_unit_val _ _ _ _ b).trans ?_))).trans (Entry.cw_at m c t o q)
  fin_cases b
  · rfl
  · exact Nat.zero_add _

/-- What a block of the output holds: the reference's rows. -/
theorem out (c : Dev nD) (t : Fin cfg0.N) (a : Fin 512) (j : Fin 1024) (hr : 512 * t.val + a.val < 32768) :
    (outsAt0 m c t.val t.isLt).1 (ix2 a j)
      = norm (resid (xrow (m ((c : Thread nD τ).loc main_arg0)) ⟨512 * t.val + a.val, hr⟩)
          (merged (xrow (m ((c : Thread nD τ).loc main_arg0)) ⟨512 * t.val + a.val, hr⟩) (arow (m ((c : Thread nD τ).loc main_arg1)) ⟨512 * t.val + a.val, hr⟩)
            (before (m ((c : Thread nD τ).loc main_arg0)) (m ((c : Thread nD τ).loc main_arg2)) 2 ⟨512 * t.val + a.val, hr⟩)
            (before (m ((c : Thread nD τ).loc main_arg0)) (m ((c : Thread nD τ).loc main_arg2)) 1 ⟨512 * t.val + a.val, hr⟩)
            (wcols (m ((c : Thread nD τ).loc main_arg2))) (wgate (m ((c : Thread nD τ).loc main_arg2)))
            (fun k => m ((c : Thread nD τ).loc main_arg3) (ix1 k)) (fun p q => m ((c : Thread nD τ).loc main_arg6) (ix2 p q))
            (fun p q => m ((c : Thread nD τ).loc main_arg4) (ix2 p q)) (fun p q => m ((c : Thread nD τ).loc main_arg5) (ix2 p q)))
          (fun p q => m ((c : Thread nD τ).loc main_arg7) (ix2 p q)))
        (fun k => m ((c : Thread nD τ).loc main_arg8) (ix1 k)) (fun k => m ((c : Thread nD τ).loc main_arg9) (ix1 k)) j := by
  by_cases hc : t.val % 4 = 0
  · rw [outsAt0_A m c t hc]
    frame_out
    refine row_of a j _ _ _ _ _ _ _ _ _ _ _ _ _ _ _ _ _ _ _ _ _ _ _ _ _ _ _ _
      (fun k => Entry.x_at m c t a k hr) (fun k => Entry.attn_at m c t a k hr) ?_ ?_ (Entry.wc_at m c t) (Entry.wg_at m c t) (Entry.gb_at m c t)
      ?_ ?_ ?_ (Entry.wa_at m c t) (Entry.wv_at m c t) (Entry.wo_at m c t) (Entry.g_at m c t) (Entry.b_at m c t)
    · intro k
      refine (loaded ((View.whole cc0_scratch0).read (Elt Ideal) ((View.whole cc0_scratch0).writes (Elt Ideal) _ _)) 6 _ a k (by omega)).trans ?_
      exact row_before m c t _ _ _ 2 (by omega) _ a k (by dsimp only; omega) hr (fun p hp _ => by rw [dif_pos hc]; exact old_first c t hc _ _ k p hp)
    · intro k
      refine (loaded ((View.whole cc0_scratch0).read (Elt Ideal) ((View.whole cc0_scratch0).writes (Elt Ideal) _ _)) 7 _ a k (by omega)).trans ?_
      exact row_before m c t _ _ _ 1 (by omega) _ a k (by dsimp only; omega) hr (fun p hp _ => by rw [dif_pos hc]; exact old_first c t hc _ _ k p hp)
    · exact tap m c t 0 _
    · exact tap m c t 1 _
    · exact tap m c t 2 _
  · rw [outsAt0_B m c t hc]
    frame_out
    refine row_of a j _ _ _ _ _ _ _ _ _ _ _ _ _ _ _ _ _ _ _ _ _ _ _ _ _ _ _ _
      (fun k => Entry.x_at m c t a k hr) (fun k => Entry.attn_at m c t a k hr) ?_ ?_ (Entry.wc_at m c t) (Entry.wg_at m c t) (Entry.gb_at m c t)
      ?_ ?_ ?_ (Entry.wa_at m c t) (Entry.wv_at m c t) (Entry.wo_at m c t) (Entry.g_at m c t) (Entry.b_at m c t)
    · intro k
      refine (loaded ((View.whole cc0_scratch0).read (Elt Ideal) ((View.whole cc0_scratch0).writes (Elt Ideal) _ _)) 6 _ a k (by omega)).trans ?_
      exact row_before m c t _ _ _ 2 (by omega) _ a k (by dsimp only; omega) hr (fun p hp _ => by rw [dif_neg hc]; exact old_later m c t hc _ _ k p hp _)
    · intro k
      refine (loaded ((View.whole cc0_scratch0).read (Elt Ideal) ((View.whole cc0_scratch0).writes (Elt Ideal) _ _)) 7 _ a k (by omega)).trans ?_
      exact row_before m c t _ _ _ 1 (by omega) _ a k (by dsimp only; omega) hr (fun p hp _ => by rw [dif_neg hc]; exact old_later m c t hc _ _ k p hp _)
    · exact tap m c t 0 _
    · exact tap m c t 1 _
    · exact tap m c t 2 _

end Cert.MixIdeal.Carry

end
-- ==== Proof.Result.lean ====
module

public import proofs.«01_k».proof.Proof.Gen.MixIdeal.Frame
public import proofs.«01_k».proof.Proof.Carry
public import proofs.«01_k».proof.Proof.RefRow
public import Idealize.ShloMosaic.Lib.Pipeline.ValueKit
public import Idealize.ShloMosaic.Lib.Claim

/-! The kernel's output array is the reference's result. -/

@[expose] public section

set_option maxRecDepth 16384

noncomputable section

open Idealize.ShloMosaic Idealize.ShloMosaic.TcCoe Idealize.SL.Sem
open Idealize.ShloMosaic.Pipeline (Dat)

namespace Cert.MixIdeal.Result

open Cert.MixIdeal Cert.MixIdeal.Gen

variable (m : (ℓ : Loc nD τ sig) → Buf (Elt Ideal) ℓ)

/-- The array after the run: the layer norm of the mixer's residual stream, as the reference computes it. -/
theorem final (c : Dev nD) :
    (dats m 0 c).arrAt 14 cfg0.N
      = Cert.MixReferenceIdeal.Rows.whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9)) := by
  refine (dats m 0 c).arrAt_eq_of_covers 14 _ (by decide +kernel) fun t _ y => ?_
  blk_simp
  rw [after0_14]
  idx_vars y
  have ht := (Entry.idx t).2.2.2.2.2.2.2.2.2.2.2.2
  have hr : 512 * t.val + y0.val < 32768 := by omega
  refine (Carry.out m c t y0 y1 hr).trans ((Cert.MixReferenceIdeal.Rows.whole_at _ _ _ _ _ _ _ _ _ _ ⟨512 * t.val + y0.val, hr⟩ y1).symm.trans ?_)
  blk_ext! [Entry.idx t]

end Cert.MixIdeal.Result

end
-- ==== Proof.Algebraic.lean ====
module

public import proofs.«01_k».proof.Defs
public import proofs.«01_k».proof.Proof.Gen.MixReferenceIdeal.Run
public import proofs.«01_k».proof.Proof.Result
public import Idealize.ShloMosaic.Lib.Claim

/-! The kernel's run and the reference's end in the same result. -/

@[expose] public section

set_option maxRecDepth 16384

noncomputable section

namespace Cert.Proof

open Idealize.ShloMosaic Idealize.ShloMosaic.TcCoe Idealize.SL.Sem

/-- The reference's result, from the kernel's arguments. -/
theorem same (m : (ℓ : Loc Cert.MixIdeal.nD Cert.MixIdeal.τ Cert.MixIdeal.sig) → Buf (Elt Ideal) ℓ)
    (m' : (ℓ : Loc Cert.MixReferenceIdeal.nD Cert.MixReferenceIdeal.τ Cert.MixReferenceIdeal.sig) → Buf (Elt Ideal) ℓ) (c : Dev Cert.MixIdeal.nD)
    (h0 : m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0))
    (h1 : m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1))
    (h2 : m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2))
    (h3 : m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3))
    (h4 : m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4))
    (h5 : m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5))
    (h6 : m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6))
    (h7 : m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7))
    (h8 : m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8))
    (h9 : m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)) :
    Cert.MixReferenceIdeal.Value.res_main_v77 m' c = (Cert.MixIdeal.Gen.dats m 0 c).arrAt 14 Cert.MixIdeal.cfg0.N := by
  refine (Cert.MixReferenceIdeal.Rows.result_eq m' c).trans (Eq.trans ?_ (Cert.MixIdeal.Result.final m c).symm)
  rw [h0, h1, h2, h3, h4, h5, h6, h7, h8, h9]

set_option maxHeartbeats 3200000 in
/-- The kernel's result is the reference's. -/
theorem algebraic : Cert.algebraic_MixIdeal_MixReferenceIdeal (hMixIdeal := Cert.MixIdeal.Gen.facts) (hMixReferenceIdeal := Cert.MixReferenceIdeal.Gen.facts) := by
  pair_intro
  · run_from Cert.MixIdeal.Gen.run_main m g
  · refine (θ_run _ _ _).mono (fun r h c => ⟨(h c).1.trans ?_, (h c).2⟩) (Cert.MixReferenceIdeal.Value.run m' g')
    have e := hagree c
    exact same m m' c e.1 e.2.1 e.2.2.1 e.2.2.2.1 e.2.2.2.2.1 e.2.2.2.2.2.1 e.2.2.2.2.2.2.1 e.2.2.2.2.2.2.2.1 e.2.2.2.2.2.2.2.2.1 e.2.2.2.2.2.2.2.2.2.1

end Cert.Proof

end
-- ==== Proof.Rotate.lean ====
module

public import proofs.«01_k».proof.ProjectReferenceIdeal
public import Idealize.ShloMosaic.Lib.Pointwise

/-! The partial rotary embedding of one head, and how a positive scale passes through it. -/

@[expose] public section

set_option maxRecDepth 16384

noncomputable section

namespace Cert.Rotate

open Idealize.ShloMosaic Idealize.ShloMosaic.TcCoe Idealize.SL.Sem

/-- One head of 64 entries, its first 16 rotated in pairs eight apart. -/
def turn (c s : Fin 8 → EReal) (p : Fin 64 → EReal) (d : Fin 64) : EReal :=
  if h : d.val < 8 then p d * c ⟨d.val, h⟩ - p ⟨8 + d.val, by omega⟩ * s ⟨d.val, h⟩
  else if h' : d.val < 16 then p d * c ⟨d.val - 8, by omega⟩ + p ⟨d.val - 8, by omega⟩ * s ⟨d.val - 8, by omega⟩
  else p d

/-- The scale of the queries. -/
def scale : EReal := Ideal.ofBits .f32 0x3E38AA3B#32

/-- It is a real number, and not negative. -/
theorem scale_real : ∃ r : ℝ, 0 ≤ r ∧ scale = (r : EReal) := by
  refine ⟨12102203 / 67108864, by norm_num, ?_⟩
  unfold scale
  simp [Ideal.ofBits, Ideal.ieee, -EReal.coe_mul]
  norm_num

theorem scale_nonneg : 0 ≤ scale := by
  obtain ⟨r, h, e⟩ := scale_real
  rw [e]; exact_mod_cast h

theorem scale_ne_top : scale ≠ ⊤ := by
  obtain ⟨r, h, e⟩ := scale_real
  rw [e]; exact EReal.coe_ne_top r

/-- The scale leaves a sum of products. -/
theorem sum_scale {n : ℕ} (x w : Fin n → EReal) : ∑ k, w k * scale * x k = (∑ k, x k * w k) * scale := by
  have key : ∀ S : Finset (Fin n), ∑ k ∈ S, w k * scale * x k = (∑ k ∈ S, x k * w k) * scale := by
    intro S
    induction S using Finset.induction_on with
    | empty => simp
    | insert a S ha ih =>
      rw [Finset.sum_insert ha, Finset.sum_insert ha, ih, EReal.right_distrib_of_nonneg_of_ne_top scale_nonneg scale_ne_top]
      congr 1
      rw [mul_right_comm, mul_comm (w a)]
  exact key _

/-- The scale leaves a rotation. -/
theorem turn_scale (c s : Fin 8 → EReal) (p : Fin 64 → EReal) (d : Fin 64) :
    turn c s (fun e => p e * scale) d = turn c s p d * scale := by
  unfold turn
  split
  · rw [sub_eq_add_neg, sub_eq_add_neg, EReal.right_distrib_of_nonneg_of_ne_top scale_nonneg scale_ne_top, EReal.neg_mul]
    congr 1
    · exact mul_right_comm _ _ _
    · congr 1; exact mul_right_comm _ _ _
  · split
    · rw [EReal.right_distrib_of_nonneg_of_ne_top scale_nonneg scale_ne_top]
      congr 1 <;> exact mul_right_comm _ _ _
    · rfl

end Cert.Rotate

end
-- ==== Proof.ProjectRow.lean ====
module

public import proofs.«01_k».proof.Proof.Gen.ProjectReferenceIdeal.Run
public import proofs.«01_k».proof.Proof.Rotate

/-! The reference's projections, one entry at a time. -/

@[expose] public section

set_option maxRecDepth 16384

noncomputable section

namespace Cert.ProjectReferenceIdeal.Rows

open Idealize.ShloMosaic Idealize.ShloMosaic.TcCoe Idealize.SL.Sem
open Cert.ProjectReferenceIdeal Cert.ProjectReferenceIdeal.Gen
open Cert.Rotate (turn scale)

/-- All the projections of the attention's inputs. -/
def proj (x : FVec Ideal S16x2048x1024 .f32) (w : FVec Ideal S1024x4936 .f32) : FVec Ideal S16x2048x1352 .f32 :=
  shapeCast S16x2048x1352 (Host.dotGeneral (F := Ideal) dot_S32768x1024_S1024x1352_S32768x1352_1_0_0_1_n_n none (shapeCast S32768x1024 x shapeCasts_S16x2048x1024_S32768x1024)
    (extractStridedSlice S1024x1352 ![0, 0] w slices_S1024x4936_S1024x1352_0_0)) shapeCasts_S32768x1352_S16x2048x1352

/-- The angle each position turns each pair by. -/
def angle : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1 (Host.powf (broadcastInDim S8 ![] bcast_S_S8 (constant (F := Ideal) S_ .f32 0x48F42400#32))
      (Host.divf (Host.negf (sitofp .f32 (iotaInDim S8 32 0))) (broadcastInDim S8 ![] bcast_S_S8 (constant (F := Ideal) S_ .f32 0x41000000#32))))))

/-- Its cosine. -/
def cosine (s : Fin 2048) (i : Fin 8) : EReal := Host.cos (F := Ideal) angle (ix2 s i)

/-- Its sine. -/
def sine (s : Fin 2048) (i : Fin 8) : EReal := Host.sin (F := Ideal) angle (ix2 s i)

/-- One entry of the projections. -/
def entry (x : FVec Ideal S16x2048x1024 .f32) (w : FVec Ideal S1024x4936 .f32) (b : Fin 16) (s : Fin 2048) (j : Fin 1352) : EReal :=
  ∑ k : Fin 1024, x (ix3 b s k) * w (ix2 k ⟨j.val, by omega⟩)

/-- The projections, at an entry. -/
theorem proj_at (x : FVec Ideal S16x2048x1024 .f32) (w : FVec Ideal S1024x4936 .f32) (b : Fin 16) (s : Fin 2048) (j : Fin 1352) :
    proj x w (ix3 b s j) = entry x w b s j := by
  pointwise [proj, entry]

/-- The cosines, spread over the heads. -/
def cosb : FVec Ideal S1x2048x1x8 .f32 := broadcastInDim S1x2048x1x8 ![1, 3] bcast_S2048x8_S1x2048x1x8_1_3 (Host.cos angle)

/-- The sines, spread over the heads. -/
def sinb : FVec Ideal S1x2048x1x8 .f32 := broadcastInDim S1x2048x1x8 ![1, 3] bcast_S2048x8_S1x2048x1x8_1_3 (Host.sin angle)

theorem cosb_at (s : Fin 2048) (i : Fin 8) : cosb (ix4 0 s 0 i) = cosine s i := by
  unfold cosb cosine
  generalize Host.cos (F := Ideal) angle = v
  pointwise

theorem sinb_at (s : Fin 2048) (i : Fin 8) : sinb (ix4 0 s 0 i) = sine s i := by
  unfold sinb sine
  generalize Host.sin (F := Ideal) angle = v
  pointwise

/-- The rotation of 8 heads. -/
def rot8 (t : FVec Ideal S16x2048x8x64 .f32) : FVec Ideal S16x2048x8x64 .f32 :=
  concatenate S16x2048x8x64 3 [⟨S16x2048x8x8, subf (mulf (extractStridedSlice S16x2048x8x8 ![0, 0, 0, 0] t slices_S16x2048x8x64_S16x2048x8x8_0_0_0_0) (broadcastInDim S16x2048x8x8 ![0, 1, 2, 3] bcast_S1x2048x1x8_S16x2048x8x8_0_1_2_3 cosb)) (mulf (extractStridedSlice S16x2048x8x8 ![0, 0, 0, 8] t slices_S16x2048x8x64_S16x2048x8x8_0_0_0_8) (broadcastInDim S16x2048x8x8 ![0, 1, 2, 3] bcast_S1x2048x1x8_S16x2048x8x8_0_1_2_3 sinb))⟩,
    ⟨S16x2048x8x8, addf (mulf (extractStridedSlice S16x2048x8x8 ![0, 0, 0, 8] t slices_S16x2048x8x64_S16x2048x8x8_0_0_0_8) (broadcastInDim S16x2048x8x8 ![0, 1, 2, 3] bcast_S1x2048x1x8_S16x2048x8x8_0_1_2_3 cosb)) (mulf (extractStridedSlice S16x2048x8x8 ![0, 0, 0, 0] t slices_S16x2048x8x64_S16x2048x8x8_0_0_0_0) (broadcastInDim S16x2048x8x8 ![0, 1, 2, 3] bcast_S1x2048x1x8_S16x2048x8x8_0_1_2_3 sinb))⟩,
    ⟨S16x2048x8x48, extractStridedSlice S16x2048x8x48 ![0, 0, 0, 16] t slices_S16x2048x8x64_S16x2048x8x48_0_0_0_16⟩] concatenates_S16x2048x8x8_S16x2048x8x8_S16x2048x8x48_S16x2048x8x64_d3

theorem rot8_at (t : FVec Ideal S16x2048x8x64 .f32) (b : Fin 16) (s : Fin 2048) (h : Fin 8) (d : Fin 64) :
    rot8 t (ix4 b s h d) = turn (cosine s) (sine s) (fun e => t (ix4 b s h e)) d := by
  unfold rot8 turn
  pointwise [cosb_at, sinb_at]
  by_cases h1 : d.val < 8
  · simp only [dif_pos h1]
  · simp only [dif_neg h1]
    by_cases h2 : d.val < 16
    · simp only [dif_pos h2, dif_pos (show d.val - 8 < 8 by omega)]
      have e1 : ∀ hh, (⟨8 + (d.val - 8), hh⟩ : Fin 64) = d := fun _ => Fin.ext (by show _ = _; dsimp only; omega)
      rw [e1]
    · simp only [dif_neg h2, dif_neg (show ¬d.val - 8 < 8 by omega)]
      exact congrArg (fun e => t (ix4 b s h e)) (Fin.ext (by show _ = _; dsimp only; omega))

/-- The rotation of 2 heads. -/
def rot2 (t : FVec Ideal S16x2048x2x64 .f32) : FVec Ideal S16x2048x2x64 .f32 :=
  concatenate S16x2048x2x64 3 [⟨S16x2048x2x8, subf (mulf (extractStridedSlice S16x2048x2x8 ![0, 0, 0, 0] t slices_S16x2048x2x64_S16x2048x2x8_0_0_0_0) (broadcastInDim S16x2048x2x8 ![0, 1, 2, 3] bcast_S1x2048x1x8_S16x2048x2x8_0_1_2_3 cosb)) (mulf (extractStridedSlice S16x2048x2x8 ![0, 0, 0, 8] t slices_S16x2048x2x64_S16x2048x2x8_0_0_0_8) (broadcastInDim S16x2048x2x8 ![0, 1, 2, 3] bcast_S1x2048x1x8_S16x2048x2x8_0_1_2_3 sinb))⟩,
    ⟨S16x2048x2x8, addf (mulf (extractStridedSlice S16x2048x2x8 ![0, 0, 0, 8] t slices_S16x2048x2x64_S16x2048x2x8_0_0_0_8) (broadcastInDim S16x2048x2x8 ![0, 1, 2, 3] bcast_S1x2048x1x8_S16x2048x2x8_0_1_2_3 cosb)) (mulf (extractStridedSlice S16x2048x2x8 ![0, 0, 0, 0] t slices_S16x2048x2x64_S16x2048x2x8_0_0_0_0) (broadcastInDim S16x2048x2x8 ![0, 1, 2, 3] bcast_S1x2048x1x8_S16x2048x2x8_0_1_2_3 sinb))⟩,
    ⟨S16x2048x2x48, extractStridedSlice S16x2048x2x48 ![0, 0, 0, 16] t slices_S16x2048x2x64_S16x2048x2x48_0_0_0_16⟩] concatenates_S16x2048x2x8_S16x2048x2x8_S16x2048x2x48_S16x2048x2x64_d3

theorem rot2_at (t : FVec Ideal S16x2048x2x64 .f32) (b : Fin 16) (s : Fin 2048) (h : Fin 2) (d : Fin 64) :
    rot2 t (ix4 b s h d) = turn (cosine s) (sine s) (fun e => t (ix4 b s h e)) d := by
  unfold rot2 turn
  pointwise [cosb_at, sinb_at]
  by_cases h1 : d.val < 8
  · simp only [dif_pos h1]
  · simp only [dif_neg h1]
    by_cases h2 : d.val < 16
    · simp only [dif_pos h2, dif_pos (show d.val - 8 < 8 by omega)]
      have e1 : ∀ hh, (⟨8 + (d.val - 8), hh⟩ : Fin 64) = d := fun _ => Fin.ext (by show _ = _; dsimp only; omega)
      rw [e1]
    · simp only [dif_neg h2, dif_neg (show ¬d.val - 8 < 8 by omega)]
      exact congrArg (fun e => t (ix4 b s h e)) (Fin.ext (by show _ = _; dsimp only; omega))

/-- The rotation of 1 head. -/
def rot1 (t : FVec Ideal S16x2048x1x64 .f32) : FVec Ideal S16x2048x1x64 .f32 :=
  concatenate S16x2048x1x64 3 [⟨S16x2048x1x8, subf (mulf (extractStridedSlice S16x2048x1x8 ![0, 0, 0, 0] t slices_S16x2048x1x64_S16x2048x1x8_0_0_0_0) (broadcastInDim S16x2048x1x8 ![0, 1, 2, 3] bcast_S1x2048x1x8_S16x2048x1x8_0_1_2_3 cosb)) (mulf (extractStridedSlice S16x2048x1x8 ![0, 0, 0, 8] t slices_S16x2048x1x64_S16x2048x1x8_0_0_0_8) (broadcastInDim S16x2048x1x8 ![0, 1, 2, 3] bcast_S1x2048x1x8_S16x2048x1x8_0_1_2_3 sinb))⟩,
    ⟨S16x2048x1x8, addf (mulf (extractStridedSlice S16x2048x1x8 ![0, 0, 0, 8] t slices_S16x2048x1x64_S16x2048x1x8_0_0_0_8) (broadcastInDim S16x2048x1x8 ![0, 1, 2, 3] bcast_S1x2048x1x8_S16x2048x1x8_0_1_2_3 cosb)) (mulf (extractStridedSlice S16x2048x1x8 ![0, 0, 0, 0] t slices_S16x2048x1x64_S16x2048x1x8_0_0_0_0) (broadcastInDim S16x2048x1x8 ![0, 1, 2, 3] bcast_S1x2048x1x8_S16x2048x1x8_0_1_2_3 sinb))⟩,
    ⟨S16x2048x1x48, extractStridedSlice S16x2048x1x48 ![0, 0, 0, 16] t slices_S16x2048x1x64_S16x2048x1x48_0_0_0_16⟩] concatenates_S16x2048x1x8_S16x2048x1x8_S16x2048x1x48_S16x2048x1x64_d3

theorem rot1_at (t : FVec Ideal S16x2048x1x64 .f32) (b : Fin 16) (s : Fin 2048) (h : Fin 1) (d : Fin 64) :
    rot1 t (ix4 b s h d) = turn (cosine s) (sine s) (fun e => t (ix4 b s h e)) d := by
  obtain rfl : h = 0 := Subsingleton.elim _ _
  unfold rot1 turn
  pointwise [cosb_at, sinb_at]
  by_cases h1 : d.val < 8
  · simp only [dif_pos h1]
  · simp only [dif_neg h1]
    by_cases h2 : d.val < 16
    · simp only [dif_pos h2, dif_pos (show d.val - 8 < 8 by omega)]
      have e1 : ∀ hh, (⟨8 + (d.val - 8), hh⟩ : Fin 64) = d := fun _ => Fin.ext (by show _ = _; dsimp only; omega)
      rw [e1]
    · simp only [dif_neg h2, dif_neg (show ¬d.val - 8 < 8 by omega)]
      exact congrArg (fun e => t (ix4 b s 0 e)) (Fin.ext (by show _ = _; dsimp only; omega))

/-- The queries, rotated and scaled. -/
def qt (x : FVec Ideal S16x2048x1024 .f32) (w : FVec Ideal S1024x4936 .f32) : FVec Ideal S16x8x512x256 .bf16 :=
  truncf .bf16 (transpose S16x8x512x256 [0, 1, 3, 2] (shapeCast S16x8x256x512 (mulf
    (rot8 (shapeCast S16x2048x8x64 (extractStridedSlice S16x2048x512 ![0, 0, 0] (proj x w) slices_S16x2048x1352_S16x2048x512_0_0_0) shapeCasts_S16x2048x512_S16x2048x8x64))
    (broadcastInDim S16x2048x8x64 ![] bcast_S_S16x2048x8x64 (constant (F := Ideal) S_ .f32 0x3E38AA3B#32))) shapeCasts_S16x2048x8x64_S16x8x256x512) transposes_S16x8x256x512_S16x8x512x256_0_1_3_2) bitsLt_bf16_f32

/-- The indexer's queries, rotated. -/
def qit (x : FVec Ideal S16x2048x1024 .f32) (w : FVec Ideal S1024x4936 .f32) : FVec Ideal S16x8x512x256 .bf16 :=
  truncf .bf16 (transpose S16x8x512x256 [0, 1, 3, 2] (shapeCast S16x8x256x512
    (rot8 (shapeCast S16x2048x8x64 (extractStridedSlice S16x2048x512 ![0, 0, 768] (proj x w) slices_S16x2048x1352_S16x2048x512_0_0_768) shapeCasts_S16x2048x512_S16x2048x8x64))
    shapeCasts_S16x2048x8x64_S16x8x256x512) transposes_S16x8x256x512_S16x8x512x256_0_1_3_2) bitsLt_bf16_f32

/-- The values. -/
def vt (x : FVec Ideal S16x2048x1024 .f32) (w : FVec Ideal S1024x4936 .f32) : FVec Ideal S16x8x128x256 .bf16 :=
  truncf .bf16 (transpose S16x8x128x256 [0, 1, 3, 2] (shapeCast S16x8x256x128
    (extractStridedSlice S16x2048x128 ![0, 0, 640] (proj x w) slices_S16x2048x1352_S16x2048x128_0_0_640) shapeCasts_S16x2048x128_S16x8x256x128) transposes_S16x8x256x128_S16x8x128x256_0_1_3_2) bitsLt_bf16_f32

/-- The indexer's head weights. -/
def wit (x : FVec Ideal S16x2048x1024 .f32) (w : FVec Ideal S1024x4936 .f32) : FVec Ideal S16x8x8x256 .f32 :=
  transpose S16x8x8x256 [0, 1, 3, 2] (shapeCast S16x8x256x8
    (extractStridedSlice S16x2048x8 ![0, 0, 1344] (proj x w) slices_S16x2048x1352_S16x2048x8_0_0_1344) shapeCasts_S16x2048x8_S16x8x256x8) transposes_S16x8x256x8_S16x8x8x256_0_1_3_2

/-- The keys, the indexer's keys and the padding. -/
def kn (x : FVec Ideal S16x2048x1024 .f32) (w : FVec Ideal S1024x4936 .f32) : FVec Ideal S16x2048x256 .bf16 :=
  truncf .bf16 (concatenate S16x2048x256 2 [
    ⟨S16x2048x128, shapeCast S16x2048x128 (rot2 (shapeCast S16x2048x2x64 (extractStridedSlice S16x2048x128 ![0, 0, 512] (proj x w) slices_S16x2048x1352_S16x2048x128_0_0_512) shapeCasts_S16x2048x128_S16x2048x2x64)) shapeCasts_S16x2048x2x64_S16x2048x128⟩,
    ⟨S16x2048x64, shapeCast S16x2048x64 (rot1 (shapeCast S16x2048x1x64 (extractStridedSlice S16x2048x64 ![0, 0, 1280] (proj x w) slices_S16x2048x1352_S16x2048x64_0_0_1280) shapeCasts_S16x2048x64_S16x2048x1x64)) shapeCasts_S16x2048x1x64_S16x2048x64⟩,
    ⟨S16x2048x64, broadcastInDim S16x2048x64 ![] bcast_S_S16x2048x64 (constant (F := Ideal) S_ .f32 0x00000000#32)⟩] concatenates_S16x2048x128_S16x2048x64_S16x2048x64_S16x2048x256_d2) bitsLt_bf16_f32

end Cert.ProjectReferenceIdeal.Rows

end
-- ==== Proof.ProjectRowEq.lean ====
module

public import proofs.«01_k».proof.Proof.ProjectRow

/-! The reference's projections, as staged terms. -/

@[expose] public section

set_option maxRecDepth 16384

noncomputable section

namespace Cert.ProjectReferenceIdeal.Rows

open Idealize.ShloMosaic Idealize.ShloMosaic.TcCoe Idealize.SL.Sem
open Cert.ProjectReferenceIdeal Cert.ProjectReferenceIdeal.Gen
open Cert.Rotate (turn scale)

set_option maxHeartbeats 1600000 in
/-- The first result. -/
theorem qt_eq (m : (ℓ : Loc nD τ sig) → Buf (Elt Ideal) ℓ) (c : Dev nD) :
    Cert.ProjectReferenceIdeal.Value.res_out0 m c = qt (m ((c.tc : Thread nD τ).loc main_arg0)) (m ((c.tc : Thread nD τ).loc main_arg1)) := rfl

set_option maxHeartbeats 1600000 in
/-- The second result. -/
theorem qit_eq (m : (ℓ : Loc nD τ sig) → Buf (Elt Ideal) ℓ) (c : Dev nD) :
    Cert.ProjectReferenceIdeal.Value.res_out1 m c = qit (m ((c.tc : Thread nD τ).loc main_arg0)) (m ((c.tc : Thread nD τ).loc main_arg1)) := rfl

set_option maxHeartbeats 1600000 in
/-- The fifth result. -/
theorem kn_eq (m : (ℓ : Loc nD τ sig) → Buf (Elt Ideal) ℓ) (c : Dev nD) :
    Cert.ProjectReferenceIdeal.Value.res_out4 m c = kn (m ((c.tc : Thread nD τ).loc main_arg0)) (m ((c.tc : Thread nD τ).loc main_arg1)) := rfl

end Cert.ProjectReferenceIdeal.Rows

end
-- ==== Proof.ProjectBlock.lean ====
module

public import proofs.«01_k».proof.Proof.Gen.ProjectIdeal.Frame
public import proofs.«01_k».proof.Proof.Rotate
public import Idealize.ShloMosaic.Lib.Pipeline.ValueKit

/-! What the kernel writes over one block of 512 tokens, one entry at a time. -/

@[expose] public section

set_option maxRecDepth 16384

noncomputable section

namespace Cert.ProjectIdeal.Rows

open Idealize.ShloMosaic Idealize.ShloMosaic.TcCoe Idealize.SL.Sem
open Cert.ProjectIdeal Cert.ProjectIdeal.Gen
open Cert.Rotate (turn scale)

/-- One head's rotation, half of the block's tokens: rows `q …` of the product, columns `c …`. -/
def part (pt : FVec Ideal S1168x512 .f32) (cs sn : FVec Ideal S8x512 .f32) (q q8 q16 c : ℕ)
    (f0 : S1168x512.Slices ![q, 0] S8x512) (f8 : S1168x512.Slices ![q8, 0] S8x512) (f16 : S1168x512.Slices ![q16, 0] S48x512)
    (g : S64x512.Slices ![0, c] S64x256) : FVec Ideal S1x1x64x256 .bf16 :=
  shapeCast S1x1x64x256 (extractStridedSlice S64x256 ![0, c] (truncf .bf16 (concatenate S64x512 0
    [⟨S8x512, subf (mulf (extractStridedSlice S8x512 ![q, 0] pt f0) cs) (mulf (extractStridedSlice S8x512 ![q8, 0] pt f8) sn)⟩,
     ⟨S8x512, addf (mulf (extractStridedSlice S8x512 ![q8, 0] pt f8) cs) (mulf (extractStridedSlice S8x512 ![q, 0] pt f0) sn)⟩,
     ⟨S48x512, extractStridedSlice S48x512 ![q16, 0] pt f16⟩] concatenates_S8x512_S8x512_S48x512_S64x512_d0) bitsLt_bf16_f32) g) shapeCasts_S64x256_S1x1x64x256

theorem part_at (pt : FVec Ideal S1168x512 .f32) (cs sn : FVec Ideal S8x512 .f32) (q q8 q16 c : ℕ)
    (f0 : S1168x512.Slices ![q, 0] S8x512) (f8 : S1168x512.Slices ![q8, 0] S8x512) (f16 : S1168x512.Slices ![q16, 0] S48x512)
    (g : S64x512.Slices ![0, c] S64x256) (h8 : q8 = q + 8) (h16 : q16 = q + 16) (hq : q + 64 ≤ 1168) (hc : c + 256 ≤ 512)
    (i : Fin 64) (u : Fin 256) :
    part pt cs sn q q8 q16 c f0 f8 f16 g (ix4 0 0 i u) = turn (fun e => cs (ix2 e ⟨c + u.val, by omega⟩)) (fun e => sn (ix2 e ⟨c + u.val, by omega⟩))
      (fun e => pt (ix2 ⟨q + e.val, by omega⟩ ⟨c + u.val, by omega⟩)) i := by
  subst h8 h16
  unfold part turn
  pointwise
  by_cases h1 : i.val < 8
  · rw [dif_pos h1, dif_pos h1]
    simp only [Nat.add_assoc]
  · rw [dif_neg h1, dif_neg h1]
    by_cases h2 : i.val < 16
    · rw [dif_pos (by omega : i.val - 8 < 8), dif_pos h2]
      have e : q + 8 + (i.val - 8) = q + i.val := by omega
      simp only [e]
    · rw [dif_neg (by omega : ¬ i.val - 8 < 8), dif_neg h2]
      have e : q + 16 + (i.val - 8 - 8) = q + i.val := by omega
      simp only [e]

/-- The whole block of rotated heads: row `64h + i` of chunk `jj`, from rows `o …` of the product. -/
def rotated (pt : FVec Ideal S1168x512 .f32) (cs sn : FVec Ideal S8x512 .f32) (o : ℕ) (ho : o + 512 ≤ 1168) : Vec Ideal S1x2x512x256 .bf16 := fun y =>
  have h1 : (y 1).val < 2 := (y 1).isLt
  have h2 : (y 2).val < 512 := (y 2).isLt
  have h3 : (y 3).val < 256 := (y 3).isLt
  turn (fun e => cs (ix2 e ⟨256 * (y 1).val + (y 3).val, by omega⟩)) (fun e => sn (ix2 e ⟨256 * (y 1).val + (y 3).val, by omega⟩))
    (fun e => pt (ix2 ⟨o + (64 * ((y 2).val / 64) + e.val), by omega⟩ ⟨256 * (y 1).val + (y 3).val, by omega⟩)) ⟨(y 2).val % 64, by omega⟩

/-- One piece of it is one head's half. -/
theorem piece (pt : FVec Ideal S1168x512 .f32) (cs sn : FVec Ideal S8x512 .f32) (o : ℕ) (ho : o + 512 ≤ 1168) (q q8 q16 c : ℕ)
    (f0 : S1168x512.Slices ![q, 0] S8x512) (f8 : S1168x512.Slices ![q8, 0] S8x512) (f16 : S1168x512.Slices ![q16, 0] S48x512)
    (g : S64x512.Slices ![0, c] S64x256) (jj h : ℕ) (h0 : q = o + 64 * h) (h8 : q8 = q + 8) (h16 : q16 = q + 16) (hc : c = 256 * jj) (hj : jj < 2) (hh : h < 8)
    (inb : ∀ a, (![0, jj, 64 * h, 0] : Fin 4 → ℕ) a + S1x1x64x256.size a ≤ S1x2x512x256.size a) (x : S1x1x64x256.Idx) :
    part pt cs sn q q8 q16 c f0 f8 f16 g x = rotated pt cs sn o ho ((Rect.unit (s := S1x2x512x256) ![0, jj, 64 * h, 0] S1x1x64x256.size inb).idx x) := by
  idx_vars x
  obtain rfl : x0 = 0 := Subsingleton.elim _ _
  obtain rfl : x1 = 0 := Subsingleton.elim _ _
  refine (part_at pt cs sn q q8 q16 c f0 f8 f16 g h8 h16 (by omega) (by omega) x2 x3).trans ?_
  subst h0 hc
  unfold rotated
  have e1 : ((Rect.unit (s := S1x2x512x256) ![0, jj, 64 * h, 0] S1x1x64x256.size inb).idx (ix4 0 0 x2 x3) 1).val = jj := by
    rfl
  have e2 : ((Rect.unit (s := S1x2x512x256) ![0, jj, 64 * h, 0] S1x1x64x256.size inb).idx (ix4 0 0 x2 x3) 2).val = 64 * h + x2.val := by
    show 64 * h + 1 * x2.val = _; omega
  have e3 : ((Rect.unit (s := S1x2x512x256) ![0, jj, 64 * h, 0] S1x1x64x256.size inb).idx (ix4 0 0 x2 x3) 3).val = x3.val := by
    show 0 + 1 * x3.val = _; omega
  have e4 : (64 * h + x2.val) / 64 = h := by omega
  have e5 : (64 * h + x2.val) % 64 = x2.val := by omega
  simp only [e1, e2, e3, e4, e5, Nat.add_assoc]

variable (x0 : Vec Ideal S1x512x1024 .f32) (x1 : Vec Ideal S1168x1024 .bf16) (x2 : Vec Ideal S1024x512 .bf16) (x3 x4 : Vec Ideal S8x512 .f32) (x5 x6 : Vec Ideal S512x256 .f32)

/-- Window 7's block. -/
theorem out7_eq (y : S1x2x512x256.Idx) : out0_7 x0 x1 x2 x3 x4 x5 x6 y = rotated (k0_pay3 (View.ld x0 r0_0) (View.ld x1 r0_1)) (k0_pay4 (View.ld x3 r0_2)) (k0_pay5 (View.ld x4 r0_2)) 0 (by omega) y := by
  unfold_out out0_7
  refine View.canon_apply_of_pieces (rotated _ _ _ 0 (by omega)) _ ?_ y (cover0_7 _ _ _ _ _ _ _ _ _ _ _ _ _ _ _ _ y)
  intro pc hpc
  rcases List.mem_cons.mp hpc with rfl | hpc
  · exact piece _ _ _ 0 (by omega) 448 456 464 256 slices_S1168x512_o448_0_S8x512 slices_S1168x512_o456_0_S8x512 slices_S1168x512_o464_0_S48x512 slices_S64x512_o0_256_S64x256 1 7 rfl rfl rfl rfl (by omega) (by omega) inb_S1x2x512x256_S1x1x64x256_0_1_448_0
  rcases List.mem_cons.mp hpc with rfl | hpc
  · exact piece _ _ _ 0 (by omega) 448 456 464 0 slices_S1168x512_o448_0_S8x512 slices_S1168x512_o456_0_S8x512 slices_S1168x512_o464_0_S48x512 slices_S64x512_o0_0_S64x256 0 7 rfl rfl rfl rfl (by omega) (by omega) inb_S1x2x512x256_S1x1x64x256_0_0_448_0
  rcases List.mem_cons.mp hpc with rfl | hpc
  · exact piece _ _ _ 0 (by omega) 384 392 400 256 slices_S1168x512_o384_0_S8x512 slices_S1168x512_o392_0_S8x512 slices_S1168x512_o400_0_S48x512 slices_S64x512_o0_256_S64x256 1 6 rfl rfl rfl rfl (by omega) (by omega) inb_S1x2x512x256_S1x1x64x256_0_1_384_0
  rcases List.mem_cons.mp hpc with rfl | hpc
  · exact piece _ _ _ 0 (by omega) 384 392 400 0 slices_S1168x512_o384_0_S8x512 slices_S1168x512_o392_0_S8x512 slices_S1168x512_o400_0_S48x512 slices_S64x512_o0_0_S64x256 0 6 rfl rfl rfl rfl (by omega) (by omega) inb_S1x2x512x256_S1x1x64x256_0_0_384_0
  rcases List.mem_cons.mp hpc with rfl | hpc
  · exact piece _ _ _ 0 (by omega) 320 328 336 256 slices_S1168x512_o320_0_S8x512 slices_S1168x512_o328_0_S8x512 slices_S1168x512_o336_0_S48x512 slices_S64x512_o0_256_S64x256 1 5 rfl rfl rfl rfl (by omega) (by omega) inb_S1x2x512x256_S1x1x64x256_0_1_320_0
  rcases List.mem_cons.mp hpc with rfl | hpc
  · exact piece _ _ _ 0 (by omega) 320 328 336 0 slices_S1168x512_o320_0_S8x512 slices_S1168x512_o328_0_S8x512 slices_S1168x512_o336_0_S48x512 slices_S64x512_o0_0_S64x256 0 5 rfl rfl rfl rfl (by omega) (by omega) inb_S1x2x512x256_S1x1x64x256_0_0_320_0
  rcases List.mem_cons.mp hpc with rfl | hpc
  · exact piece _ _ _ 0 (by omega) 256 264 272 256 slices_S1168x512_o256_0_S8x512 slices_S1168x512_o264_0_S8x512 slices_S1168x512_o272_0_S48x512 slices_S64x512_o0_256_S64x256 1 4 rfl rfl rfl rfl (by omega) (by omega) inb_S1x2x512x256_S1x1x64x256_0_1_256_0
  rcases List.mem_cons.mp hpc with rfl | hpc
  · exact piece _ _ _ 0 (by omega) 256 264 272 0 slices_S1168x512_o256_0_S8x512 slices_S1168x512_o264_0_S8x512 slices_S1168x512_o272_0_S48x512 slices_S64x512_o0_0_S64x256 0 4 rfl rfl rfl rfl (by omega) (by omega) inb_S1x2x512x256_S1x1x64x256_0_0_256_0
  rcases List.mem_cons.mp hpc with rfl | hpc
  · exact piece _ _ _ 0 (by omega) 192 200 208 256 slices_S1168x512_o192_0_S8x512 slices_S1168x512_o200_0_S8x512 slices_S1168x512_o208_0_S48x512 slices_S64x512_o0_256_S64x256 1 3 rfl rfl rfl rfl (by omega) (by omega) inb_S1x2x512x256_S1x1x64x256_0_1_192_0
  rcases List.mem_cons.mp hpc with rfl | hpc
  · exact piece _ _ _ 0 (by omega) 192 200 208 0 slices_S1168x512_o192_0_S8x512 slices_S1168x512_o200_0_S8x512 slices_S1168x512_o208_0_S48x512 slices_S64x512_o0_0_S64x256 0 3 rfl rfl rfl rfl (by omega) (by omega) inb_S1x2x512x256_S1x1x64x256_0_0_192_0
  rcases List.mem_cons.mp hpc with rfl | hpc
  · exact piece _ _ _ 0 (by omega) 128 136 144 256 slices_S1168x512_o128_0_S8x512 slices_S1168x512_o136_0_S8x512 slices_S1168x512_o144_0_S48x512 slices_S64x512_o0_256_S64x256 1 2 rfl rfl rfl rfl (by omega) (by omega) inb_S1x2x512x256_S1x1x64x256_0_1_128_0
  rcases List.mem_cons.mp hpc with rfl | hpc
  · exact piece _ _ _ 0 (by omega) 128 136 144 0 slices_S1168x512_o128_0_S8x512 slices_S1168x512_o136_0_S8x512 slices_S1168x512_o144_0_S48x512 slices_S64x512_o0_0_S64x256 0 2 rfl rfl rfl rfl (by omega) (by omega) inb_S1x2x512x256_S1x1x64x256_0_0_128_0
  rcases List.mem_cons.mp hpc with rfl | hpc
  · exact piece _ _ _ 0 (by omega) 64 72 80 256 slices_S1168x512_o64_0_S8x512 slices_S1168x512_o72_0_S8x512 slices_S1168x512_o80_0_S48x512 slices_S64x512_o0_256_S64x256 1 1 rfl rfl rfl rfl (by omega) (by omega) inb_S1x2x512x256_S1x1x64x256_0_1_64_0
  rcases List.mem_cons.mp hpc with rfl | hpc
  · exact piece _ _ _ 0 (by omega) 64 72 80 0 slices_S1168x512_o64_0_S8x512 slices_S1168x512_o72_0_S8x512 slices_S1168x512_o80_0_S48x512 slices_S64x512_o0_0_S64x256 0 1 rfl rfl rfl rfl (by omega) (by omega) inb_S1x2x512x256_S1x1x64x256_0_0_64_0
  rcases List.mem_cons.mp hpc with rfl | hpc
  · exact piece _ _ _ 0 (by omega) 0 8 16 256 slices_S1168x512_o0_0_S8x512 slices_S1168x512_o8_0_S8x512 slices_S1168x512_o16_0_S48x512 slices_S64x512_o0_256_S64x256 1 0 rfl rfl rfl rfl (by omega) (by omega) inb_S1x2x512x256_S1x1x64x256_0_1_0_0
  rcases List.mem_cons.mp hpc with rfl | hpc
  · exact piece _ _ _ 0 (by omega) 0 8 16 0 slices_S1168x512_o0_0_S8x512 slices_S1168x512_o8_0_S8x512 slices_S1168x512_o16_0_S48x512 slices_S64x512_o0_0_S64x256 0 0 rfl rfl rfl rfl (by omega) (by omega) inb_S1x2x512x256_S1x1x64x256_0_0_0_0
  nomatch hpc

/-- Window 8's block. -/
theorem out8_eq (y : S1x2x512x256.Idx) : out0_8 x0 x1 x2 x3 x4 x5 x6 y = rotated (k0_pay3 (View.ld x0 r0_0) (View.ld x1 r0_1)) (k0_pay4 (View.ld x3 r0_2)) (k0_pay5 (View.ld x4 r0_2)) 512 (by omega) y := by
  unfold_out out0_8
  refine View.canon_apply_of_pieces (rotated _ _ _ 512 (by omega)) _ ?_ y (cover0_8 _ _ _ _ _ _ _ _ _ _ _ _ _ _ _ _ y)
  intro pc hpc
  rcases List.mem_cons.mp hpc with rfl | hpc
  · exact piece _ _ _ 512 (by omega) 960 968 976 256 slices_S1168x512_o960_0_S8x512 slices_S1168x512_o968_0_S8x512 slices_S1168x512_o976_0_S48x512 slices_S64x512_o0_256_S64x256 1 7 rfl rfl rfl rfl (by omega) (by omega) inb_S1x2x512x256_S1x1x64x256_0_1_448_0
  rcases List.mem_cons.mp hpc with rfl | hpc
  · exact piece _ _ _ 512 (by omega) 960 968 976 0 slices_S1168x512_o960_0_S8x512 slices_S1168x512_o968_0_S8x512 slices_S1168x512_o976_0_S48x512 slices_S64x512_o0_0_S64x256 0 7 rfl rfl rfl rfl (by omega) (by omega) inb_S1x2x512x256_S1x1x64x256_0_0_448_0
  rcases List.mem_cons.mp hpc with rfl | hpc
  · exact piece _ _ _ 512 (by omega) 896 904 912 256 slices_S1168x512_o896_0_S8x512 slices_S1168x512_o904_0_S8x512 slices_S1168x512_o912_0_S48x512 slices_S64x512_o0_256_S64x256 1 6 rfl rfl rfl rfl (by omega) (by omega) inb_S1x2x512x256_S1x1x64x256_0_1_384_0
  rcases List.mem_cons.mp hpc with rfl | hpc
  · exact piece _ _ _ 512 (by omega) 896 904 912 0 slices_S1168x512_o896_0_S8x512 slices_S1168x512_o904_0_S8x512 slices_S1168x512_o912_0_S48x512 slices_S64x512_o0_0_S64x256 0 6 rfl rfl rfl rfl (by omega) (by omega) inb_S1x2x512x256_S1x1x64x256_0_0_384_0
  rcases List.mem_cons.mp hpc with rfl | hpc
  · exact piece _ _ _ 512 (by omega) 832 840 848 256 slices_S1168x512_o832_0_S8x512 slices_S1168x512_o840_0_S8x512 slices_S1168x512_o848_0_S48x512 slices_S64x512_o0_256_S64x256 1 5 rfl rfl rfl rfl (by omega) (by omega) inb_S1x2x512x256_S1x1x64x256_0_1_320_0
  rcases List.mem_cons.mp hpc with rfl | hpc
  · exact piece _ _ _ 512 (by omega) 832 840 848 0 slices_S1168x512_o832_0_S8x512 slices_S1168x512_o840_0_S8x512 slices_S1168x512_o848_0_S48x512 slices_S64x512_o0_0_S64x256 0 5 rfl rfl rfl rfl (by omega) (by omega) inb_S1x2x512x256_S1x1x64x256_0_0_320_0
  rcases List.mem_cons.mp hpc with rfl | hpc
  · exact piece _ _ _ 512 (by omega) 768 776 784 256 slices_S1168x512_o768_0_S8x512 slices_S1168x512_o776_0_S8x512 slices_S1168x512_o784_0_S48x512 slices_S64x512_o0_256_S64x256 1 4 rfl rfl rfl rfl (by omega) (by omega) inb_S1x2x512x256_S1x1x64x256_0_1_256_0
  rcases List.mem_cons.mp hpc with rfl | hpc
  · exact piece _ _ _ 512 (by omega) 768 776 784 0 slices_S1168x512_o768_0_S8x512 slices_S1168x512_o776_0_S8x512 slices_S1168x512_o784_0_S48x512 slices_S64x512_o0_0_S64x256 0 4 rfl rfl rfl rfl (by omega) (by omega) inb_S1x2x512x256_S1x1x64x256_0_0_256_0
  rcases List.mem_cons.mp hpc with rfl | hpc
  · exact piece _ _ _ 512 (by omega) 704 712 720 256 slices_S1168x512_o704_0_S8x512 slices_S1168x512_o712_0_S8x512 slices_S1168x512_o720_0_S48x512 slices_S64x512_o0_256_S64x256 1 3 rfl rfl rfl rfl (by omega) (by omega) inb_S1x2x512x256_S1x1x64x256_0_1_192_0
  rcases List.mem_cons.mp hpc with rfl | hpc
  · exact piece _ _ _ 512 (by omega) 704 712 720 0 slices_S1168x512_o704_0_S8x512 slices_S1168x512_o712_0_S8x512 slices_S1168x512_o720_0_S48x512 slices_S64x512_o0_0_S64x256 0 3 rfl rfl rfl rfl (by omega) (by omega) inb_S1x2x512x256_S1x1x64x256_0_0_192_0
  rcases List.mem_cons.mp hpc with rfl | hpc
  · exact piece _ _ _ 512 (by omega) 640 648 656 256 slices_S1168x512_o640_0_S8x512 slices_S1168x512_o648_0_S8x512 slices_S1168x512_o656_0_S48x512 slices_S64x512_o0_256_S64x256 1 2 rfl rfl rfl rfl (by omega) (by omega) inb_S1x2x512x256_S1x1x64x256_0_1_128_0
  rcases List.mem_cons.mp hpc with rfl | hpc
  · exact piece _ _ _ 512 (by omega) 640 648 656 0 slices_S1168x512_o640_0_S8x512 slices_S1168x512_o648_0_S8x512 slices_S1168x512_o656_0_S48x512 slices_S64x512_o0_0_S64x256 0 2 rfl rfl rfl rfl (by omega) (by omega) inb_S1x2x512x256_S1x1x64x256_0_0_128_0
  rcases List.mem_cons.mp hpc with rfl | hpc
  · exact piece _ _ _ 512 (by omega) 576 584 592 256 slices_S1168x512_o576_0_S8x512 slices_S1168x512_o584_0_S8x512 slices_S1168x512_o592_0_S48x512 slices_S64x512_o0_256_S64x256 1 1 rfl rfl rfl rfl (by omega) (by omega) inb_S1x2x512x256_S1x1x64x256_0_1_64_0
  rcases List.mem_cons.mp hpc with rfl | hpc
  · exact piece _ _ _ 512 (by omega) 576 584 592 0 slices_S1168x512_o576_0_S8x512 slices_S1168x512_o584_0_S8x512 slices_S1168x512_o592_0_S48x512 slices_S64x512_o0_0_S64x256 0 1 rfl rfl rfl rfl (by omega) (by omega) inb_S1x2x512x256_S1x1x64x256_0_0_64_0
  rcases List.mem_cons.mp hpc with rfl | hpc
  · exact piece _ _ _ 512 (by omega) 512 520 528 256 slices_S1168x512_o512_0_S8x512 slices_S1168x512_o520_0_S8x512 slices_S1168x512_o528_0_S48x512 slices_S64x512_o0_256_S64x256 1 0 rfl rfl rfl rfl (by omega) (by omega) inb_S1x2x512x256_S1x1x64x256_0_1_0_0
  rcases List.mem_cons.mp hpc with rfl | hpc
  · exact piece _ _ _ 512 (by omega) 512 520 528 0 slices_S1168x512_o512_0_S8x512 slices_S1168x512_o520_0_S8x512 slices_S1168x512_o528_0_S48x512 slices_S64x512_o0_0_S64x256 0 0 rfl rfl rfl rfl (by omega) (by omega) inb_S1x2x512x256_S1x1x64x256_0_0_0_0
  nomatch hpc

end Cert.ProjectIdeal.Rows

end
-- ==== Proof.ProjectPlain.lean ====
module

public import proofs.«01_k».proof.Proof.Gen.ProjectIdeal.Frame
public import proofs.«01_k».proof.Proof.Gen.ProjectIdeal.Value
public import Idealize.ShloMosaic.Lib.Pipeline.ValueKit

/-! The kernel's two products over one block, and the blocks that are read off them. -/

@[expose] public section

set_option maxRecDepth 16384

noncomputable section

namespace Cert.ProjectIdeal.Rows

open Idealize.ShloMosaic Idealize.ShloMosaic.TcCoe Idealize.SL.Sem
open Cert.ProjectIdeal Cert.ProjectIdeal.Gen
open Cert.ProjectIdeal.Value

variable (x0 : Vec Ideal S1x512x1024 .f32) (x1 : Vec Ideal S1168x1024 .bf16) (x2 : Vec Ideal S1024x512 .bf16) (x3 x4 : Vec Ideal S8x512 .f32) (x5 x6 : Vec Ideal S512x256 .f32)

/-- The first product: the transposed weights by the tokens. -/
theorem first_at (r : Fin 1168) (u : Fin 512) : k0_pay3 (View.ld x0 r0_0) (View.ld x1 r0_1) (ix2 r u) = ∑ k : Fin 1024, (x1 (ix2 r k) : EReal) * x0 (ix3 0 u k) := by
  pointwise [k0_pay3, k0_pay2]

theorem cosine_at (i : Fin 8) (u : Fin 512) : k0_pay4 (View.ld x3 r0_2) (ix2 i u) = x3 (ix2 i u) := by
  pointwise [k0_pay4]

theorem sine_at (i : Fin 8) (u : Fin 512) : k0_pay5 (View.ld x4 r0_2) (ix2 i u) = x4 (ix2 i u) := by
  pointwise [k0_pay5]

/-- The values' block. -/
theorem out9_at (a : Fin 2) (r : Fin 128) (u : Fin 256) :
    out0_9 x0 x1 x2 x3 x4 x5 x6 (ix4 0 a r u) = k0_pay3 (View.ld x0 r0_0) (View.ld x1 r0_1) (ix2 ⟨r.val + 1024, by omega⟩ ⟨a.val * 256 + u.val, by omega⟩) := by
  unfold_out out0_9
  refine (canon9_eq (View.ld x0 r0_0) (View.ld x1 r0_1) _).trans ?_
  exact congrArg (k0_pay3 (View.ld x0 r0_0) (View.ld x1 r0_1)) (funext fun a => match a with | ⟨0, _⟩ => rfl | ⟨1, _⟩ => rfl)

/-- The head weights' block. -/
theorem out10_at (a : Fin 2) (r : Fin 8) (u : Fin 256) :
    out0_10 x0 x1 x2 x3 x4 x5 x6 (ix4 0 a r u) = k0_pay3 (View.ld x0 r0_0) (View.ld x1 r0_1) (ix2 ⟨r.val + 1152, by omega⟩ ⟨a.val * 256 + u.val, by omega⟩) := by
  unfold_out out0_10
  refine (canon10_eq (View.ld x0 r0_0) (View.ld x1 r0_1) _).trans ?_
  exact congrArg (k0_pay3 (View.ld x0 r0_0) (View.ld x1 r0_1)) (funext fun a => match a with | ⟨0, _⟩ => rfl | ⟨1, _⟩ => rfl)

/-- The keys' block. -/
theorem out11_at (u : Fin 512) (j : Fin 256) :
    out0_11 x0 x1 x2 x3 x4 x5 x6 (ix3 0 u j) = (∑ k : Fin 1024, (x0 (ix3 0 u k) : EReal) * x2 (ix2 k ⟨j.val, by omega⟩)) * x5 (ix2 u j)
      + (∑ k : Fin 1024, (x0 (ix3 0 u k) : EReal) * x2 (ix2 k ⟨j.val + 256, by omega⟩)) * x6 (ix2 u j) := by
  unfold_out out0_11
  refine (canon11_eq _ _ _ _ _).trans ?_
  pointwise [k0_pay68, k0_pay2]

end Cert.ProjectIdeal.Rows

end
-- ==== Proof.ProjectArrays.lean ====
module

public import proofs.«01_k».proof.Proof.Gen.ProjectIdeal.Frame
public import proofs.«01_k».proof.Proof.ProjectRow
public import Idealize.ShloMosaic.Lib.Pipeline.ValueKit
public import Idealize.ShloMosaic.Lib.Claim

/-! The arrays the host hands to the projection kernel, one entry at a time. -/

@[expose] public section

set_option maxRecDepth 16384

noncomputable section

open Idealize.ShloMosaic Idealize.ShloMosaic.TcCoe Idealize.SL.Sem
open Idealize.ShloMosaic.Pipeline (Dat)

namespace Cert.ProjectIdeal.Entry

open Cert.ProjectIdeal Cert.ProjectIdeal.Gen
open Cert.ProjectReferenceIdeal.Rows (angle cosine sine)
open Cert.Rotate (scale)

/-- The transposed weights, as the kernel takes them. -/
def rows (w : FVec Ideal S1024x4936 .f32) : FVec Ideal S1168x1024 .bf16 :=
  truncf .bf16 (concatenate S1168x1024 0 [
    ⟨S512x1024, mulf (transpose S512x1024 [1, 0] (extractStridedSlice S1024x512 ![0, 0] w slices_S1024x4936_S1024x512_0_0) transposes_S1024x512_S512x1024_1_0)
      (broadcastInDim S512x1024 ![] bcast_S_S512x1024 (constant (F := Ideal) S_ .f32 0x3E38AA3B#32))⟩,
    ⟨S512x1024, transpose S512x1024 [1, 0] (extractStridedSlice S1024x512 ![0, 768] w slices_S1024x4936_S1024x512_0_768) transposes_S1024x512_S512x1024_1_0⟩,
    ⟨S128x1024, transpose S128x1024 [1, 0] (extractStridedSlice S1024x128 ![0, 640] w slices_S1024x4936_S1024x128_0_640) transposes_S1024x128_S128x1024_1_0⟩,
    ⟨S8x1024, transpose S8x1024 [1, 0] (extractStridedSlice S1024x8 ![0, 1344] w slices_S1024x4936_S1024x8_0_1344) transposes_S1024x8_S8x1024_1_0⟩,
    ⟨S8x1024, broadcastInDim S8x1024 ![] bcast_S_S8x1024 (constant (F := Ideal) S_ .f32 0x00000000#32)⟩] concatenates_S512x1024_S512x1024_S128x1024_S8x1024_S8x1024_S1168x1024_d0) bitsLt_bf16_f32

/-- One head's columns of the keys, the rotated pairs changed over and the rest zero. -/
def swap2 (w : FVec Ideal S1024x128 .f32) : FVec Ideal S1024x128 .f32 :=
  shapeCast S1024x128 (concatenate S1024x2x64 2 [
    ⟨S1024x2x8, extractStridedSlice S1024x2x8 ![0, 0, 8] (shapeCast S1024x2x64 w shapeCasts_S1024x128_S1024x2x64) slices_S1024x2x64_S1024x2x8_0_0_8⟩,
    ⟨S1024x2x8, extractStridedSlice S1024x2x8 ![0, 0, 0] (shapeCast S1024x2x64 w shapeCasts_S1024x128_S1024x2x64) slices_S1024x2x64_S1024x2x8_0_0_0⟩,
    ⟨S1024x2x48, broadcastInDim S1024x2x48 ![] bcast_S_S1024x2x48 (constant (F := Ideal) S_ .f32 0x00000000#32)⟩]
    concatenates_S1024x2x8_S1024x2x8_S1024x2x48_S1024x2x64_d2) shapeCasts_S1024x2x64_S1024x128

/-- The same of the indexer's keys. -/
def swap1 (w : FVec Ideal S1024x64 .f32) : FVec Ideal S1024x64 .f32 :=
  shapeCast S1024x64 (concatenate S1024x1x64 2 [
    ⟨S1024x1x8, extractStridedSlice S1024x1x8 ![0, 0, 8] (shapeCast S1024x1x64 w shapeCasts_S1024x64_S1024x1x64) slices_S1024x1x64_S1024x1x8_0_0_8⟩,
    ⟨S1024x1x8, extractStridedSlice S1024x1x8 ![0, 0, 0] (shapeCast S1024x1x64 w shapeCasts_S1024x64_S1024x1x64) slices_S1024x1x64_S1024x1x8_0_0_0⟩,
    ⟨S1024x1x48, broadcastInDim S1024x1x48 ![] bcast_S_S1024x1x48 (constant (F := Ideal) S_ .f32 0x00000000#32)⟩]
    concatenates_S1024x1x8_S1024x1x8_S1024x1x48_S1024x1x64_d2) shapeCasts_S1024x1x64_S1024x64

/-- The keys' weights, as the kernel takes them. -/
def cols (w : FVec Ideal S1024x4936 .f32) : FVec Ideal S1024x512 .bf16 :=
  truncf .bf16 (concatenate S1024x512 1 [
    ⟨S1024x128, extractStridedSlice S1024x128 ![0, 512] w slices_S1024x4936_S1024x128_0_512⟩,
    ⟨S1024x64, extractStridedSlice S1024x64 ![0, 1280] w slices_S1024x4936_S1024x64_0_1280⟩,
    ⟨S1024x64, broadcastInDim S1024x64 ![] bcast_S_S1024x64 (constant (F := Ideal) S_ .f32 0x00000000#32)⟩,
    ⟨S1024x128, swap2 (extractStridedSlice S1024x128 ![0, 512] w slices_S1024x4936_S1024x128_0_512)⟩,
    ⟨S1024x64, swap1 (extractStridedSlice S1024x64 ![0, 1280] w slices_S1024x4936_S1024x64_0_1280)⟩,
    ⟨S1024x64, broadcastInDim S1024x64 ![] bcast_S_S1024x64 (constant (F := Ideal) S_ .f32 0x00000000#32)⟩]
    concatenates_S1024x128_S1024x64_S1024x64_S1024x128_S1024x64_S1024x64_S1024x512_d1) bitsLt_bf16_f32

/-- A table of one head spread over four. -/
def four (v : FVec Ideal S2048x64 .f32) : FVec Ideal S2048x256 .f32 :=
  shapeCast S2048x256 (broadcastInDim S1x2048x4x64 ![0, 1, 2, 3] bcast_S1x2048x1x64_S1x2048x4x64_0_1_2_3 (shapeCast S1x2048x1x64 v shapeCasts_S2048x64_S1x2048x1x64)) shapeCasts_S1x2048x4x64_S2048x256

/-- The cosines along a head, one where it is not rotated. -/
def cosHead : FVec Ideal S2048x64 .f32 :=
  concatenate S2048x64 1 [⟨S2048x8, Host.cos (F := Ideal) angle⟩, ⟨S2048x8, Host.cos (F := Ideal) angle⟩,
    ⟨S2048x48, broadcastInDim S2048x48 ![] bcast_S_S2048x48 (constant (F := Ideal) S_ .f32 0x3F800000#32)⟩] concatenates_S2048x8_S2048x8_S2048x48_S2048x64_d1

/-- The signed sines along a head, zero where it is not rotated. -/
def sinHead : FVec Ideal S2048x64 .f32 :=
  concatenate S2048x64 1 [⟨S2048x8, Host.negf (Host.sin (F := Ideal) angle)⟩, ⟨S2048x8, Host.sin (F := Ideal) angle⟩,
    ⟨S2048x48, broadcastInDim S2048x48 ![] bcast_S_S2048x48 (constant (F := Ideal) S_ .f32 0x00000000#32)⟩] concatenates_S2048x8_S2048x8_S2048x48_S2048x64_d1

set_option maxHeartbeats 1600000

theorem turned_at (v : FVec Ideal S2048x8 .f32) (i : Fin 8) (s : Fin 2048) :
    transpose S8x2048 [1, 0] v transposes_S2048x8_S8x2048_1_0 (ix2 i s) = v (ix2 s i) := by
  pointwise

/-- Rows 0–511: the queries' columns, scaled. -/
theorem rows_query (w : FVec Ideal S1024x4936 .f32) (r : Fin 1168) (k : Fin 1024) (h : r.val < 512) :
    rows w (ix2 r k) = (w (ix2 k ⟨r.val, by omega⟩) : EReal) * scale := by
  unfold rows
  pointwise
  rw [dif_pos h]
  rfl

/-- Rows 512–1023: the indexer's queries'. -/
theorem rows_index (w : FVec Ideal S1024x4936 .f32) (r : Fin 1168) (k : Fin 1024) (s : Fin 512) (h : r.val = 512 + s.val) :
    rows w (ix2 r k) = w (ix2 k ⟨768 + s.val, by omega⟩) := by
  obtain ⟨r, hr⟩ := r; obtain rfl : r = 512 + s.val := h
  unfold rows
  pointwise

/-- Rows 1024–1151: the values'. -/
theorem rows_value (w : FVec Ideal S1024x4936 .f32) (r : Fin 1168) (k : Fin 1024) (s : Fin 128) (h : r.val = 1024 + s.val) :
    rows w (ix2 r k) = w (ix2 k ⟨640 + s.val, by omega⟩) := by
  obtain ⟨r, hr⟩ := r; obtain rfl : r = 1024 + s.val := h
  unfold rows
  pointwise
  rw [dif_neg (by omega), dif_neg (by omega), dif_pos (by omega)]
  exact congrArg w (congrArg (ix2 k) (Fin.ext (by dsimp only; omega)))

/-- Rows 1152–1159: the indexer's head weights'. -/
theorem rows_head (w : FVec Ideal S1024x4936 .f32) (r : Fin 1168) (k : Fin 1024) (s : Fin 8) (h : r.val = 1152 + s.val) :
    rows w (ix2 r k) = w (ix2 k ⟨1344 + s.val, by omega⟩) := by
  obtain ⟨r, hr⟩ := r; obtain rfl : r = 1152 + s.val := h
  unfold rows
  pointwise
  rw [dif_neg (by omega), dif_neg (by omega), dif_neg (by omega), dif_pos (by omega)]
  exact congrArg w (congrArg (ix2 k) (Fin.ext (by dsimp only; omega)))

/-- Columns 0–127: the keys'. -/
theorem cols_key (w : FVec Ideal S1024x4936 .f32) (k : Fin 1024) (j : Fin 512) (h : j.val < 128) :
    cols w (ix2 k j) = w (ix2 k ⟨512 + j.val, by omega⟩) := by
  unfold cols
  pointwise
  rw [dif_pos h]

/-- Columns 128–191: the indexer's keys'. -/
theorem cols_index (w : FVec Ideal S1024x4936 .f32) (k : Fin 1024) (j : Fin 512) (s : Fin 64) (h : j.val = 128 + s.val) :
    cols w (ix2 k j) = w (ix2 k ⟨1280 + s.val, by omega⟩) := by
  obtain ⟨j, hj⟩ := j; obtain rfl : j = 128 + s.val := h
  unfold cols
  pointwise

/-- Columns 192–255: none. -/
theorem cols_pad (w : FVec Ideal S1024x4936 .f32) (k : Fin 1024) (j : Fin 512) (h : 192 ≤ j.val) (h' : j.val < 256) :
    cols w (ix2 k j) = (0 : EReal) := by
  unfold cols
  pointwise
  rw [dif_neg (by omega), dif_neg (by omega), dif_pos (by omega)]

/-- Columns 256–383: the keys', the rotated pairs changed over. -/
theorem cols_swap2 (w : FVec Ideal S1024x4936 .f32) (k : Fin 1024) (j : Fin 512) (s : Fin 128) (h : j.val = 256 + s.val) :
    cols w (ix2 k j) = swap2 (extractStridedSlice S1024x128 ![0, 512] w slices_S1024x4936_S1024x128_0_512) (ix2 k s) := by
  obtain ⟨j, hj⟩ := j; obtain rfl : j = 256 + s.val := h
  unfold cols
  pointwise
  rw [dif_neg (by omega), dif_neg (by omega), dif_neg (by omega), dif_pos (by omega)]
  exact congrArg _ (congrArg (ix2 k) (Fin.ext (by dsimp only; omega)))

/-- Columns 384–447: the indexer's keys', the rotated pairs changed over. -/
theorem cols_swap1 (w : FVec Ideal S1024x4936 .f32) (k : Fin 1024) (j : Fin 512) (s : Fin 64) (h : j.val = 384 + s.val) :
    cols w (ix2 k j) = swap1 (extractStridedSlice S1024x64 ![0, 1280] w slices_S1024x4936_S1024x64_0_1280) (ix2 k s) := by
  obtain ⟨j, hj⟩ := j; obtain rfl : j = 384 + s.val := h
  unfold cols
  pointwise
  rw [dif_neg (by omega), dif_neg (by omega), dif_neg (by omega), dif_neg (by omega), dif_pos (by omega)]
  exact congrArg _ (congrArg (ix2 k) (Fin.ext (by dsimp only; omega)))

/-- Columns 448–511: none. -/
theorem cols_none (w : FVec Ideal S1024x4936 .f32) (k : Fin 1024) (j : Fin 512) (h : 448 ≤ j.val) :
    cols w (ix2 k j) = (0 : EReal) := by
  unfold cols
  pointwise
  rw [dif_neg (by omega), dif_neg (by omega), dif_neg (by omega), dif_neg (by omega), dif_neg (by omega)]

theorem swap2_at (v : FVec Ideal S1024x128 .f32) (k : Fin 1024) (j : Fin 128) (h : Fin 2) (d : Fin 64) (hj : j.val = h.val * 64 + d.val) :
    swap2 v (ix2 k j) = (if h1 : d.val < 8 then v (ix2 k ⟨h.val * 64 + (8 + d.val), by omega⟩)
      else if h2 : d.val < 16 then v (ix2 k ⟨h.val * 64 + (d.val - 8), by omega⟩) else (0 : EReal)) := by
  obtain ⟨j, hj'⟩ := j; obtain rfl : j = h.val * 64 + d.val := hj
  unfold swap2
  pointwise
  have e : (d.val - 8 < 8) ↔ (d.val < 16) := by omega
  simp only [e]

theorem swap1_at (v : FVec Ideal S1024x64 .f32) (k : Fin 1024) (d : Fin 64) :
    swap1 v (ix2 k d) = (if h1 : d.val < 8 then v (ix2 k ⟨8 + d.val, by omega⟩)
      else if h2 : d.val < 16 then v (ix2 k ⟨d.val - 8, by omega⟩) else (0 : EReal)) := by
  unfold swap1
  pointwise
  have e : (d.val - 8 < 8) ↔ (d.val < 16) := by omega
  simp only [e]

theorem four_at (v : FVec Ideal S2048x64 .f32) (s : Fin 2048) (j : Fin 256) (h : Fin 4) (d : Fin 64) (hj : j.val = h.val * 64 + d.val) :
    four v (ix2 s j) = v (ix2 s d) := by
  obtain ⟨j, hj'⟩ := j; obtain rfl : j = h.val * 64 + d.val := hj
  unfold four
  pointwise

theorem cosHead_at (s : Fin 2048) (d : Fin 64) :
    cosHead (ix2 s d) = (if h1 : d.val < 8 then cosine s ⟨d.val, h1⟩ else if h2 : d.val < 16 then cosine s ⟨d.val - 8, by omega⟩ else (1 : EReal)) := by
  unfold cosHead cosine
  generalize Host.cos (F := Ideal) angle = v
  pointwise
  have e : (d.val - 8 < 8) ↔ (d.val < 16) := by omega
  simp only [e]

theorem sinHead_at (s : Fin 2048) (d : Fin 64) :
    sinHead (ix2 s d) = (if h1 : d.val < 8 then -(sine s ⟨d.val, h1⟩) else if h2 : d.val < 16 then sine s ⟨d.val - 8, by omega⟩ else (0 : EReal)) := by
  unfold sinHead sine
  generalize Host.sin (F := Ideal) angle = v
  pointwise
  have e : (d.val - 8 < 8) ↔ (d.val < 16) := by omega
  simp only [e]

end Cert.ProjectIdeal.Entry

end
-- ==== Proof.ProjectRowAt.lean ====
module

public import proofs.«01_k».proof.Proof.ProjectRow

/-! The reference's projections, one entry at a time. -/

@[expose] public section

set_option maxRecDepth 16384

noncomputable section

namespace Cert.ProjectReferenceIdeal.Rows

open Idealize.ShloMosaic Idealize.ShloMosaic.TcCoe Idealize.SL.Sem
open Cert.ProjectReferenceIdeal Cert.ProjectReferenceIdeal.Gen
open Cert.Rotate (turn scale)

/-- The queries, at an entry. -/
theorem qt_at (x : FVec Ideal S16x2048x1024 .f32) (w : FVec Ideal S1024x4936 .f32) (b : Fin 16) (ch : Fin 8) (r : Fin 512) (u : Fin 256)
    (s : Fin 2048) (h : Fin 8) (d : Fin 64) (hs : s.val = ch.val * 256 + u.val) (hr : r.val = h.val * 64 + d.val) :
    qt x w (ix4 b ch r u) = turn (cosine s) (sine s) (fun e => entry x w b s ⟨h.val * 64 + e.val, by omega⟩) d * scale := by
  obtain ⟨s, hbs⟩ := s
  obtain rfl : s = ch.val * 256 + u.val := hs
  obtain ⟨r, hbr⟩ := r
  obtain rfl : r = h.val * 64 + d.val := hr
  unfold qt
  pointwise [rot8_at, proj_at]
  rfl

/-- The indexer's queries before the rotation, head by head. -/
def heads (x : FVec Ideal S16x2048x1024 .f32) (w : FVec Ideal S1024x4936 .f32) : FVec Ideal S16x2048x8x64 .f32 :=
  shapeCast S16x2048x8x64 (extractStridedSlice S16x2048x512 ![0, 0, 768] (proj x w) slices_S16x2048x1352_S16x2048x512_0_0_768) shapeCasts_S16x2048x512_S16x2048x8x64

/-- … at an entry. -/
theorem heads_at (x : FVec Ideal S16x2048x1024 .f32) (w : FVec Ideal S1024x4936 .f32) (b : Fin 16) (s : Fin 2048) (h : Fin 8) (e : Fin 64) :
    heads x w (ix4 b s h e) = entry x w b s ⟨768 + (h.val * 64 + e.val), by omega⟩ := by
  unfold heads
  pointwise [proj_at]

/-- A rotated array in the layout of the results, at an entry. -/
theorem laid_at (t : FVec Ideal S16x2048x8x64 .f32) (b : Fin 16) (ch : Fin 8) (r : Fin 512) (u : Fin 256)
    (s : Fin 2048) (h : Fin 8) (d : Fin 64) (hs : s.val = ch.val * 256 + u.val) (hr : r.val = h.val * 64 + d.val) :
    truncf (F := Ideal) .bf16 (transpose S16x8x512x256 [0, 1, 3, 2] (shapeCast S16x8x256x512 (rot8 t)
      shapeCasts_S16x2048x8x64_S16x8x256x512) transposes_S16x8x256x512_S16x8x512x256_0_1_3_2) bitsLt_bf16_f32 (ix4 b ch r u)
      = turn (cosine s) (sine s) (fun e => t (ix4 b s h e)) d := by
  obtain ⟨s, hbs⟩ := s
  obtain rfl : s = ch.val * 256 + u.val := hs
  obtain ⟨r, hbr⟩ := r
  obtain rfl : r = h.val * 64 + d.val := hr
  pointwise [rot8_at]

/-- The indexer's queries, at an entry. -/
theorem qit_at (x : FVec Ideal S16x2048x1024 .f32) (w : FVec Ideal S1024x4936 .f32) (b : Fin 16) (ch : Fin 8) (r : Fin 512) (u : Fin 256)
    (s : Fin 2048) (h : Fin 8) (d : Fin 64) (hs : s.val = ch.val * 256 + u.val) (hr : r.val = h.val * 64 + d.val) :
    qit x w (ix4 b ch r u) = turn (cosine s) (sine s) (fun e => entry x w b s ⟨768 + (h.val * 64 + e.val), by omega⟩) d := by
  refine (laid_at (heads x w) b ch r u s h d hs hr).trans ?_
  simp only [heads_at]

/-- The values, at an entry. -/
theorem vt_at (x : FVec Ideal S16x2048x1024 .f32) (w : FVec Ideal S1024x4936 .f32) (b : Fin 16) (ch : Fin 8) (r : Fin 128) (u : Fin 256)
    (s : Fin 2048) (hs : s.val = ch.val * 256 + u.val) :
    vt x w (ix4 b ch r u) = entry x w b s ⟨640 + r.val, by omega⟩ := by
  obtain ⟨s, hbs⟩ := s
  obtain rfl : s = ch.val * 256 + u.val := hs
  unfold vt
  pointwise [proj_at]

/-- The indexer's head weights, at an entry. -/
theorem wit_at (x : FVec Ideal S16x2048x1024 .f32) (w : FVec Ideal S1024x4936 .f32) (b : Fin 16) (ch : Fin 8) (r : Fin 8) (u : Fin 256)
    (s : Fin 2048) (hs : s.val = ch.val * 256 + u.val) :
    wit x w (ix4 b ch r u) = entry x w b s ⟨1344 + r.val, by omega⟩ := by
  obtain ⟨s, hbs⟩ := s
  obtain rfl : s = ch.val * 256 + u.val := hs
  unfold wit
  pointwise [proj_at]

/-- The keys, at an entry. -/
theorem kn_key_at (x : FVec Ideal S16x2048x1024 .f32) (w : FVec Ideal S1024x4936 .f32) (b : Fin 16) (s : Fin 2048) (j : Fin 256)
    (h : Fin 2) (d : Fin 64) (hj : j.val = h.val * 64 + d.val) :
    kn x w (ix3 b s j) = turn (cosine s) (sine s) (fun e => entry x w b s ⟨512 + (h.val * 64 + e.val), by omega⟩) d := by
  obtain ⟨j, hbj⟩ := j
  obtain rfl : j = h.val * 64 + d.val := hj
  unfold kn
  pointwise [rot2_at, rot1_at, proj_at]
  simp only [dif_pos (show h.val * 64 + d.val < 128 by omega), show (h.val * 64 + d.val) / 64 = h.val by omega, show (h.val * 64 + d.val) % 64 = d.val by omega]

/-- The indexer's keys, at an entry. -/
theorem kn_index_at (x : FVec Ideal S16x2048x1024 .f32) (w : FVec Ideal S1024x4936 .f32) (b : Fin 16) (s : Fin 2048) (j : Fin 256)
    (d : Fin 64) (hj : j.val = 128 + d.val) :
    kn x w (ix3 b s j) = turn (cosine s) (sine s) (fun e => entry x w b s ⟨1280 + e.val, by omega⟩) d := by
  obtain ⟨j, hbj⟩ := j
  obtain rfl : j = 128 + d.val := hj
  unfold kn
  pointwise [rot2_at, rot1_at, proj_at]

/-- The padding. -/
theorem kn_pad_at (x : FVec Ideal S16x2048x1024 .f32) (w : FVec Ideal S1024x4936 .f32) (b : Fin 16) (s : Fin 2048) (j : Fin 256)
    (hj : 192 ≤ j.val) : kn x w (ix3 b s j) = 0 := by
  unfold kn
  pointwise [rot2_at, rot1_at, proj_at]
  simp only [dif_neg (show ¬j.val < 128 by omega), dif_neg (show ¬j.val - 128 < 64 by omega)]

end Cert.ProjectReferenceIdeal.Rows

end
-- ==== Proof.ProjectPoint.lean ====
module

public import proofs.«01_k».proof.Proof.ProjectBlock
public import proofs.«01_k».proof.Proof.ProjectPlain
public import proofs.«01_k».proof.Proof.ProjectArrays
public import proofs.«01_k».proof.Proof.ProjectRowAt

/-! One entry of each block the projection kernel writes, as the reference computes it. -/

@[expose] public section

set_option maxRecDepth 16384
set_option maxHeartbeats 800000

noncomputable section

open Idealize.ShloMosaic Idealize.ShloMosaic.TcCoe Idealize.SL.Sem

namespace Cert.ProjectIdeal.Points

open Cert.ProjectIdeal Cert.ProjectIdeal.Gen Cert.ProjectIdeal.Entry Cert.ProjectIdeal.Rows
open Cert.ProjectReferenceIdeal.Rows (angle cosine sine entry qt qit vt wit kn qt_at qit_at vt_at wit_at kn_key_at kn_index_at kn_pad_at)
open Cert.Rotate (turn scale sum_scale turn_scale)

theorem turn_congr {c c' s s' : Fin 8 → EReal} {p p' : Fin 64 → EReal} {d d' : Fin 64} (hc : c = c') (hs : s = s') (hp : p = p') (hd : d = d') :
    turn c s p d = turn c' s' p' d' := by
  subst hc hs hp hd; rfl

/-- A rotation as two products with tables that hold one and zero outside the rotated entries. -/
theorem turn_of (c s : Fin 8 → EReal) (p : Fin 64 → EReal) (d : Fin 64) (A B C S : EReal) (hA : A = p d)
    (hC : C = if h1 : d.val < 8 then c ⟨d.val, h1⟩ else if h2 : d.val < 16 then c ⟨d.val - 8, by omega⟩ else (1 : EReal))
    (hS : S = if h1 : d.val < 8 then -(s ⟨d.val, h1⟩) else if h2 : d.val < 16 then s ⟨d.val - 8, by omega⟩ else (0 : EReal))
    (hB1 : ∀ h1 : d.val < 8, B = p ⟨8 + d.val, by omega⟩) (hB2 : ∀ (h1 : ¬ d.val < 8) (h2 : d.val < 16), B = p ⟨d.val - 8, by omega⟩) :
    A * C + B * S = turn c s p d := by
  unfold turn
  by_cases h1 : d.val < 8
  · rw [dif_pos h1] at hC hS
    rw [dif_pos h1, hA, hB1 h1, hC, hS, mul_neg, sub_eq_add_neg]
  · rw [dif_neg h1] at hC hS
    rw [dif_neg h1]
    by_cases h2 : d.val < 16
    · rw [dif_pos h2] at hC hS
      rw [dif_pos h2, hA, hB2 h1 h2, hC, hS]
    · rw [dif_neg h2] at hC hS
      rw [dif_neg h2, hA, hC, hS, mul_one, mul_zero, add_zero]

variable (X0 : Vec Ideal S1x512x1024 .f32) (X1 : Vec Ideal S1168x1024 .bf16) (X2 : Vec Ideal S1024x512 .bf16) (X3 X4 : Vec Ideal S8x512 .f32) (X5 X6 : Vec Ideal S512x256 .f32)
  (x : FVec Ideal S16x2048x1024 .f32) (w : FVec Ideal S1024x4936 .f32) (b : Fin 16) (p : Fin 4)

/-- The token of a block's row. -/
def tok (p : Fin 4) (u : Fin 512) : Fin 2048 := ⟨p.val * 512 + u.val, by omega⟩

/-- What the seven blocks hold: 512 tokens of a sequence, the two weights, and the tokens' angles. -/
structure Held : Prop where
  tokens : ∀ (u : Fin 512) (k : Fin 1024), X0 (ix3 0 u k) = x (ix3 b (tok p u) k)
  rows : ∀ (r : Fin 1168) (k : Fin 1024), X1 (ix2 r k) = rows w (ix2 r k)
  cols : ∀ (k : Fin 1024) (j : Fin 512), X2 (ix2 k j) = cols w (ix2 k j)
  cosT : ∀ (i : Fin 8) (u : Fin 512), X3 (ix2 i u) = cosine (tok p u) i
  sinT : ∀ (i : Fin 8) (u : Fin 512), X4 (ix2 i u) = sine (tok p u) i
  cosN : ∀ (u : Fin 512) (j : Fin 256), X5 (ix2 u j) = four cosHead (ix2 (tok p u) j)
  sinN : ∀ (u : Fin 512) (j : Fin 256), X6 (ix2 u j) = four sinHead (ix2 (tok p u) j)

variable (H : Held X0 X1 X2 X3 X4 X5 X6 x w b p)
include H

/-- The first product at a point, over the arguments. -/
theorem first (u : Fin 512) (r : Fin 1168) :
    k0_pay3 (View.ld X0 r0_0) (View.ld X1 r0_1) (ix2 r u)
      = ∑ k : Fin 1024, (rows w (ix2 r k) : EReal)
          * x (ix3 b (tok p u) k) := by
  refine (first_at _ _ r u).trans (Finset.sum_congr rfl fun k _ => ?_)
  exact congrArg₂ (fun a b : EReal => a * b) (H.rows r k) (H.tokens u k)

theorem first_query (u : Fin 512) (r : Fin 1168) (h : r.val < 512) :
    k0_pay3 (View.ld X0 r0_0) (View.ld X1 r0_1) (ix2 r u)
      = entry x w b (tok p u) ⟨r.val, by omega⟩ * scale := by
  refine (first X0 X1 X2 X3 X4 X5 X6 x w b p H u r).trans (Eq.trans (Finset.sum_congr rfl fun k _ => ?_) (sum_scale _ _))
  exact congrArg (fun a : EReal => a * _) (rows_query _ r k h)

theorem first_plain (u : Fin 512) (r : Fin 1168) (j : Fin 1352) (h : ∀ k, rows w (ix2 r k) = w (ix2 k ⟨j.val, by omega⟩)) :
    k0_pay3 (View.ld X0 r0_0) (View.ld X1 r0_1) (ix2 r u)
      = entry x w b (tok p u) j := by
  refine (first X0 X1 X2 X3 X4 X5 X6 x w b p H u r).trans (Finset.sum_congr rfl fun k _ => ?_)
  exact (congrArg (fun a : EReal => a * _) (h k)).trans (mul_comm _ _)

/-- The queries at a point. -/
theorem query (a : Fin 2) (r : Fin 512) (u : Fin 256) :
    out0_7 X0 X1 X2 X3 X4 X5 X6 (ix4 0 a r u)
      = qt x w (ix4 b ⟨2 * p.val + a.val, by omega⟩ r u) := by
  refine (out7_eq _ _ _ _ _ _ _ _).trans (Eq.trans ?_ (qt_at _ _ _ _ r u (tok p ⟨256 * a.val + u.val, by omega⟩) ⟨r.val / 64, by omega⟩ ⟨r.val % 64, by omega⟩
    (by unfold tok; dsimp only; omega) (by dsimp only; omega)).symm)
  refine Eq.trans ?_ (turn_scale _ _ _ _)
  unfold rotated
  refine turn_congr (funext fun e => ?_) (funext fun e => ?_) (funext fun e => ?_) rfl
  · exact (cosine_at _ e _).trans (H.cosT e ⟨256 * a.val + u.val, by omega⟩)
  · exact (sine_at _ e _).trans (H.sinT e ⟨256 * a.val + u.val, by omega⟩)
  · refine (first_query X0 X1 X2 X3 X4 X5 X6 x w b p H ⟨256 * a.val + u.val, by omega⟩ ⟨0 + (64 * (r.val / 64) + e.val), by omega⟩ (by dsimp only; omega)).trans ?_
    exact congrArg (fun j => entry _ _ _ _ j * scale) (Fin.ext (by dsimp only; omega))

/-- The indexer's queries at a point. -/
theorem indexQuery (a : Fin 2) (r : Fin 512) (u : Fin 256) :
    out0_8 X0 X1 X2 X3 X4 X5 X6 (ix4 0 a r u)
      = qit x w (ix4 b ⟨2 * p.val + a.val, by omega⟩ r u) := by
  refine (out8_eq _ _ _ _ _ _ _ _).trans (Eq.trans ?_ (qit_at _ _ _ _ r u (tok p ⟨256 * a.val + u.val, by omega⟩) ⟨r.val / 64, by omega⟩ ⟨r.val % 64, by omega⟩
    (by unfold tok; dsimp only; omega) (by dsimp only; omega)).symm)
  unfold rotated
  refine turn_congr (funext fun e => ?_) (funext fun e => ?_) (funext fun e => ?_) rfl
  · exact (cosine_at _ e _).trans (H.cosT e ⟨256 * a.val + u.val, by omega⟩)
  · exact (sine_at _ e _).trans (H.sinT e ⟨256 * a.val + u.val, by omega⟩)
  · refine (first_plain X0 X1 X2 X3 X4 X5 X6 x w b p H ⟨256 * a.val + u.val, by omega⟩ ⟨512 + (64 * (r.val / 64) + e.val), by omega⟩ ⟨768 + (64 * (r.val / 64) + e.val), by omega⟩
      (fun k => rows_index _ _ k ⟨64 * (r.val / 64) + e.val, by omega⟩ rfl)).trans ?_
    exact congrArg (fun j => entry _ _ _ _ j) (Fin.ext (by dsimp only; omega))

/-- The values at a point. -/
theorem value (a : Fin 2) (r : Fin 128) (u : Fin 256) :
    out0_9 X0 X1 X2 X3 X4 X5 X6 (ix4 0 a r u)
      = vt x w (ix4 b ⟨2 * p.val + a.val, by omega⟩ r u) := by
  refine (out9_at _ _ _ _ _ _ _ _ _ _).trans (Eq.trans ?_ (vt_at _ _ _ _ r u (tok p ⟨a.val * 256 + u.val, by omega⟩) (by unfold tok; dsimp only; omega)).symm)
  exact first_plain X0 X1 X2 X3 X4 X5 X6 x w b p H ⟨a.val * 256 + u.val, by omega⟩ ⟨r.val + 1024, by omega⟩ ⟨640 + r.val, by omega⟩ (fun k => rows_value _ _ k r (Nat.add_comm _ _))

/-- The indexer's head weights at a point. -/
theorem headWeight (a : Fin 2) (r : Fin 8) (u : Fin 256) :
    out0_10 X0 X1 X2 X3 X4 X5 X6 (ix4 0 a r u)
      = wit x w (ix4 b ⟨2 * p.val + a.val, by omega⟩ r u) := by
  refine (out10_at _ _ _ _ _ _ _ _ _ _).trans (Eq.trans ?_ (wit_at _ _ _ _ r u (tok p ⟨a.val * 256 + u.val, by omega⟩) (by unfold tok; dsimp only; omega)).symm)
  exact first_plain X0 X1 X2 X3 X4 X5 X6 x w b p H ⟨a.val * 256 + u.val, by omega⟩ ⟨r.val + 1152, by omega⟩ ⟨1344 + r.val, by omega⟩ (fun k => rows_head _ _ k r (Nat.add_comm _ _))

/-- The second product at a point, a column the arguments' own. -/
theorem second (u : Fin 512) (j : Fin 512) (j' : Fin 1352) (h : ∀ k, cols w (ix2 k j) = w (ix2 k ⟨j'.val, by omega⟩)) :
    (∑ k : Fin 1024, (X0 (ix3 0 u k) : EReal) * X2 (ix2 k j))
      = entry x w b (tok p u) j' :=
  Finset.sum_congr rfl fun k _ => congrArg₂ (fun a b : EReal => a * b) (H.tokens u k) ((H.cols k j).trans (h k))

/-- A column of zeros. -/
theorem second_zero (u : Fin 512) (j : Fin 512) (h : ∀ k, cols w (ix2 k j) = (0 : EReal)) :
    (∑ k : Fin 1024, (X0 (ix3 0 u k) : EReal) * X2 (ix2 k j)) = 0 :=
  Finset.sum_eq_zero fun k _ => (congrArg (fun b : EReal => _ * b) ((H.cols k j).trans (h k))).trans (mul_zero _)

/-- The keys at a point. -/
theorem key (u : Fin 512) (j : Fin 256) :
    out0_11 X0 X1 X2 X3 X4 X5 X6 (ix3 0 u j)
      = kn x w (ix3 b (tok p u) j) := by
  refine (out11_at _ _ _ _ _ _ _ _ _).trans ?_
  have hC := (H.cosN u j).trans ((four_at _ _ j ⟨j.val / 64, by omega⟩ ⟨j.val % 64, by omega⟩ (by dsimp only; omega)).trans (cosHead_at _ _))
  have hS := (H.sinN u j).trans ((four_at _ _ j ⟨j.val / 64, by omega⟩ ⟨j.val % 64, by omega⟩ (by dsimp only; omega)).trans (sinHead_at _ _))
  by_cases h1 : j.val < 128
  · refine Eq.trans ?_ (kn_key_at _ _ _ _ j ⟨j.val / 64, by omega⟩ ⟨j.val % 64, by omega⟩ (by dsimp only; omega)).symm
    refine turn_of _ _ _ _ _ _ _ _ ?_ hC hS (fun g1 => ?_) (fun g1 g2 => ?_)
    · refine (second X0 X1 X2 X3 X4 X5 X6 x w b p H u ⟨j.val, by omega⟩ ⟨512 + j.val, by omega⟩ (fun k => cols_key _ k _ h1)).trans ?_
      exact congrArg (fun j => entry _ _ _ _ j) (Fin.ext (by dsimp only; omega))
    · refine second X0 X1 X2 X3 X4 X5 X6 x w b p H u ⟨j.val + 256, by omega⟩ ⟨512 + (j.val / 64 * 64 + (8 + j.val % 64)), by omega⟩ (fun k => ?_)
      refine (cols_swap2 _ k _ ⟨j.val, h1⟩ (Nat.add_comm _ _)).trans ((swap2_at _ k _ ⟨j.val / 64, by omega⟩ ⟨j.val % 64, by omega⟩ (by dsimp only; omega)).trans ?_)
      rw [dif_pos g1]
      pointwise
    · refine second X0 X1 X2 X3 X4 X5 X6 x w b p H u ⟨j.val + 256, by omega⟩ ⟨512 + (j.val / 64 * 64 + (j.val % 64 - 8)), by omega⟩ (fun k => ?_)
      refine (cols_swap2 _ k _ ⟨j.val, h1⟩ (Nat.add_comm _ _)).trans ((swap2_at _ k _ ⟨j.val / 64, by omega⟩ ⟨j.val % 64, by omega⟩ (by dsimp only; omega)).trans ?_)
      rw [dif_neg g1, dif_pos g2]
      pointwise
  · by_cases h2 : j.val < 192
    · refine Eq.trans ?_ (kn_index_at _ _ _ _ j ⟨j.val % 64, by omega⟩ (by dsimp only; omega)).symm
      refine turn_of _ _ _ _ _ _ _ _ ?_ hC hS (fun g1 => ?_) (fun g1 g2 => ?_)
      · exact second X0 X1 X2 X3 X4 X5 X6 x w b p H u ⟨j.val, by omega⟩ ⟨1280 + j.val % 64, by omega⟩ (fun k => cols_index _ k _ ⟨j.val % 64, by omega⟩ (by dsimp only; omega))
      · refine second X0 X1 X2 X3 X4 X5 X6 x w b p H u ⟨j.val + 256, by omega⟩ ⟨1280 + (8 + j.val % 64), by omega⟩ (fun k => ?_)
        refine (cols_swap1 _ k _ ⟨j.val % 64, by omega⟩ (by dsimp only; omega)).trans ((swap1_at _ k _).trans ?_)
        rw [dif_pos g1]
        pointwise
      · refine second X0 X1 X2 X3 X4 X5 X6 x w b p H u ⟨j.val + 256, by omega⟩ ⟨1280 + (j.val % 64 - 8), by omega⟩ (fun k => ?_)
        refine (cols_swap1 _ k _ ⟨j.val % 64, by omega⟩ (by dsimp only; omega)).trans ((swap1_at _ k _).trans ?_)
        rw [dif_neg g1, dif_pos g2]
        pointwise
    · refine Eq.trans ?_ (kn_pad_at _ _ _ _ j (by omega)).symm
      rw [second_zero X0 X1 X2 X3 X4 X5 X6 x w b p H u ⟨j.val, by omega⟩ (fun k => cols_pad _ k _ (by dsimp only; omega) (by dsimp only; omega)),
        second_zero X0 X1 X2 X3 X4 X5 X6 x w b p H u ⟨j.val + 256, by omega⟩ (fun k => cols_none _ k _ (by dsimp only; omega))]
      rw [zero_mul, zero_mul, add_zero]

end Cert.ProjectIdeal.Points

end
-- ==== Proof.ProjectEntry.lean ====
module

public import proofs.«01_k».proof.Proof.Gen.ProjectIdeal.Frame
public import proofs.«01_k».proof.Proof.ProjectArrays
public import Idealize.ShloMosaic.Lib.Pipeline.ValueKit
public import Idealize.ShloMosaic.Lib.Claim

/-! The blocks the projection kernel reads, in terms of the arguments. -/

@[expose] public section

set_option maxRecDepth 300000

noncomputable section

open Idealize.ShloMosaic Idealize.ShloMosaic.TcCoe Idealize.SL.Sem
open Idealize.ShloMosaic.Pipeline (Dat)

namespace Cert.ProjectIdeal.Entry

open Cert.ProjectIdeal Cert.ProjectIdeal.Gen
open Cert.ProjectReferenceIdeal.Rows (angle cosine sine)
open Cert.Rotate (scale)

variable (m : (ℓ : Loc nD τ sig) → Buf (Elt Ideal) ℓ)

/-- Every window's block index, at every point. -/
theorem idx : ∀ t : Fin cfg0.N, win0_0.index t = ![t.val / 4, t.val % 4, 0] ∧ win0_1.index t = ![0, 0] ∧ win0_2.index t = ![0, 0]
    ∧ win0_3.index t = ![0, t.val % 4] ∧ win0_4.index t = ![0, t.val % 4] ∧ win0_5.index t = ![t.val % 4, 0] ∧ win0_6.index t = ![t.val % 4, 0]
    ∧ win0_7.index t = ![t.val / 4, t.val % 4, 0, 0] ∧ win0_8.index t = ![t.val / 4, t.val % 4, 0, 0] ∧ win0_9.index t = ![t.val / 4, t.val % 4, 0, 0]
    ∧ win0_10.index t = ![t.val / 4, t.val % 4, 0, 0] ∧ win0_11.index t = ![t.val / 4, t.val % 4, 0] ∧ t.val < 64 :=
  (by decide +kernel : ∀ t : Fin grid0.N, _)

/-- A block of `x` is 512 tokens of one sequence. -/
theorem x_at (c : Dev nD) (t : Fin cfg0.N) (a : Fin 512) (k : Fin 1024) (hb : t.val / 4 < 16) (hs : t.val % 4 * 512 + a.val < 2048) :
    iblk m c 0 t (ix3 0 a k) = m ((c : Thread nD τ).loc main_arg0) (ix3 (⟨t.val / 4, hb⟩ : Fin 16) (⟨t.val % 4 * 512 + a.val, hs⟩ : Fin 2048) k) := by
  blk_point [iblk, V, idx t]

set_option maxHeartbeats 4000000

/-- The second operand of the call. -/
theorem rows_eq (c : Dev nD) : (V m c (Pipeline.arrRef spec0 1) : FVec Ideal S1168x1024 .bf16) = rows (m ((c : Thread nD τ).loc main_arg1)) := by
  rfl

/-- The third. -/
theorem cols_eq (c : Dev nD) : (V m c (Pipeline.arrRef spec0 2) : FVec Ideal S1024x512 .bf16) = cols (m ((c : Thread nD τ).loc main_arg1)) := by
  rfl

/-- The fourth. -/
theorem cosT_eq (c : Dev nD) : (V m c (Pipeline.arrRef spec0 3) : FVec Ideal S8x2048 .f32) = transpose S8x2048 [1, 0] (Host.cos (F := Ideal) angle) transposes_S2048x8_S8x2048_1_0 := by
  rfl

/-- The fifth. -/
theorem sinT_eq (c : Dev nD) : (V m c (Pipeline.arrRef spec0 4) : FVec Ideal S8x2048 .f32) = transpose S8x2048 [1, 0] (Host.sin (F := Ideal) angle) transposes_S2048x8_S8x2048_1_0 := by
  rfl

/-- The sixth. -/
theorem cosN_eq (c : Dev nD) : (V m c (Pipeline.arrRef spec0 5) : FVec Ideal S2048x256 .f32) = four cosHead := by
  rfl

/-- The seventh. -/
theorem sinN_eq (c : Dev nD) : (V m c (Pipeline.arrRef spec0 6) : FVec Ideal S2048x256 .f32) = four sinHead := by
  rfl

/-- The weights' one block is the whole array. -/
theorem rows_at (c : Dev nD) (t : Fin cfg0.N) (r : Fin 1168) (k : Fin 1024) :
    iblk m c 1 t (ix2 r k) = rows (m ((c : Thread nD τ).loc main_arg1)) (ix2 r k) := by
  refine Eq.trans ?_ (congrFun (rows_eq m c) (ix2 r k))
  blk_simp [iblk, idx t]
  generalize (V m c (Pipeline.arrRef spec0 1)) = v
  blk_ext [idx t]

theorem cols_at (c : Dev nD) (t : Fin cfg0.N) (k : Fin 1024) (j : Fin 512) :
    iblk m c 2 t (ix2 k j) = cols (m ((c : Thread nD τ).loc main_arg1)) (ix2 k j) := by
  refine Eq.trans ?_ (congrFun (cols_eq m c) (ix2 k j))
  blk_simp [iblk, idx t]
  generalize (V m c (Pipeline.arrRef spec0 2)) = v
  blk_ext [idx t]

theorem cosT_at (c : Dev nD) (t : Fin cfg0.N) (i : Fin 8) (u : Fin 512) (hs : t.val % 4 * 512 + u.val < 2048) :
    iblk m c 3 t (ix2 i u) = cosine ⟨t.val % 4 * 512 + u.val, hs⟩ i := by
  refine Eq.trans ?_ (turned_at (Host.cos (F := Ideal) angle) i ⟨t.val % 4 * 512 + u.val, hs⟩)
  refine Eq.trans ?_ (congrFun (cosT_eq m c) (ix2 i ⟨t.val % 4 * 512 + u.val, hs⟩))
  blk_simp [iblk, idx t]
  generalize (V m c (Pipeline.arrRef spec0 3)) = v
  blk_ext [idx t]

theorem sinT_at (c : Dev nD) (t : Fin cfg0.N) (i : Fin 8) (u : Fin 512) (hs : t.val % 4 * 512 + u.val < 2048) :
    iblk m c 4 t (ix2 i u) = sine ⟨t.val % 4 * 512 + u.val, hs⟩ i := by
  refine Eq.trans ?_ (turned_at (Host.sin (F := Ideal) angle) i ⟨t.val % 4 * 512 + u.val, hs⟩)
  refine Eq.trans ?_ (congrFun (sinT_eq m c) (ix2 i ⟨t.val % 4 * 512 + u.val, hs⟩))
  blk_simp [iblk, idx t]
  generalize (V m c (Pipeline.arrRef spec0 4)) = v
  blk_ext [idx t]

theorem cosN_at (c : Dev nD) (t : Fin cfg0.N) (u : Fin 512) (j : Fin 256) (hs : t.val % 4 * 512 + u.val < 2048) :
    iblk m c 5 t (ix2 u j) = four cosHead (ix2 ⟨t.val % 4 * 512 + u.val, hs⟩ j) := by
  refine Eq.trans ?_ (congrFun (cosN_eq m c) (ix2 ⟨t.val % 4 * 512 + u.val, hs⟩ j))
  blk_simp [iblk, idx t]
  generalize (V m c (Pipeline.arrRef spec0 5)) = v
  blk_ext [idx t]

theorem sinN_at (c : Dev nD) (t : Fin cfg0.N) (u : Fin 512) (j : Fin 256) (hs : t.val % 4 * 512 + u.val < 2048) :
    iblk m c 6 t (ix2 u j) = four sinHead (ix2 ⟨t.val % 4 * 512 + u.val, hs⟩ j) := by
  refine Eq.trans ?_ (congrFun (sinN_eq m c) (ix2 ⟨t.val % 4 * 512 + u.val, hs⟩ j))
  blk_simp [iblk, idx t]
  generalize (V m c (Pipeline.arrRef spec0 6)) = v
  blk_ext [idx t]

end Cert.ProjectIdeal.Entry

end
-- ==== Proof.ProjectResult.lean ====
module

public import proofs.«01_k».proof.Proof.ProjectPoint
public import proofs.«01_k».proof.Proof.ProjectEntry

/-! The arrays the projection kernel leaves, as the reference computes them. -/

@[expose] public section

set_option maxRecDepth 16384
set_option maxHeartbeats 800000

noncomputable section

open Idealize.ShloMosaic Idealize.ShloMosaic.TcCoe Idealize.SL.Sem
open Idealize.ShloMosaic.Pipeline (Dat)

namespace Cert.ProjectIdeal.Result

open Cert.ProjectIdeal Cert.ProjectIdeal.Gen Cert.ProjectIdeal.Entry Cert.ProjectIdeal.Points
open Cert.ProjectReferenceIdeal.Rows (qt qit vt wit kn)

variable (m : (ℓ : Loc nD τ sig) → Buf (Elt Ideal) ℓ)

/-- What the blocks hold at a point. -/
theorem held (c : Dev nD) (t : Fin cfg0.N) (hb : t.val / 4 < 16) (hp : t.val % 4 < 4) :
    Held (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) ⟨t.val / 4, hb⟩ ⟨t.val % 4, hp⟩ where
  tokens u k := x_at m c t u k hb (by omega)
  rows r k := rows_at m c t r k
  cols k j := cols_at m c t k j
  cosT i u := cosT_at m c t i u (by omega)
  sinT i u := sinT_at m c t i u (by omega)
  cosN u j := cosN_at m c t u j (by omega)
  sinN u j := sinN_at m c t u j (by omega)

/-- The queries after the run. -/
theorem final7 (c : Dev nD) : (dats m 0 c).arrAt 7 cfg0.N = qt (m ((c : Thread nD τ).loc main_arg0)) (m ((c : Thread nD τ).loc main_arg1)) := by
  refine (dats m 0 c).arrAt_eq_of_covers 7 _ (by decide +kernel) fun t _ y => ?_
  blk_simp
  rw [after0_7]
  idx_vars y
  have ht := (idx t).2.2.2.2.2.2.2.2.2.2.2.2
  have hb : t.val / 4 < 16 := by omega
  have hp : t.val % 4 < 4 := by omega
  obtain rfl : y0 = 0 := Subsingleton.elim _ _
  refine (query _ _ _ _ _ _ _ _ _ _ _ (held m c t hb hp) y1 y2 y3).trans ?_
  generalize qt (m ((c : Thread nD τ).loc main_arg0)) (m ((c : Thread nD τ).loc main_arg1)) = v
  blk_ext [idx t]

/-- The indexer's queries after the run. -/
theorem final8 (c : Dev nD) : (dats m 0 c).arrAt 8 cfg0.N = qit (m ((c : Thread nD τ).loc main_arg0)) (m ((c : Thread nD τ).loc main_arg1)) := by
  refine (dats m 0 c).arrAt_eq_of_covers 8 _ (by decide +kernel) fun t _ y => ?_
  blk_simp
  rw [after0_8]
  idx_vars y
  have ht := (idx t).2.2.2.2.2.2.2.2.2.2.2.2
  have hb : t.val / 4 < 16 := by omega
  have hp : t.val % 4 < 4 := by omega
  obtain rfl : y0 = 0 := Subsingleton.elim _ _
  refine (indexQuery _ _ _ _ _ _ _ _ _ _ _ (held m c t hb hp) y1 y2 y3).trans ?_
  generalize qit (m ((c : Thread nD τ).loc main_arg0)) (m ((c : Thread nD τ).loc main_arg1)) = v
  blk_ext [idx t]

/-- The values after the run. -/
theorem final9 (c : Dev nD) : (dats m 0 c).arrAt 9 cfg0.N = vt (m ((c : Thread nD τ).loc main_arg0)) (m ((c : Thread nD τ).loc main_arg1)) := by
  refine (dats m 0 c).arrAt_eq_of_covers 9 _ (by decide +kernel) fun t _ y => ?_
  blk_simp
  rw [after0_9]
  idx_vars y
  have ht := (idx t).2.2.2.2.2.2.2.2.2.2.2.2
  have hb : t.val / 4 < 16 := by omega
  have hp : t.val % 4 < 4 := by omega
  obtain rfl : y0 = 0 := Subsingleton.elim _ _
  refine (value _ _ _ _ _ _ _ _ _ _ _ (held m c t hb hp) y1 y2 y3).trans ?_
  generalize vt (m ((c : Thread nD τ).loc main_arg0)) (m ((c : Thread nD τ).loc main_arg1)) = v
  blk_ext [idx t]

/-- The indexer's head weights after the run. -/
theorem final10 (c : Dev nD) : (dats m 0 c).arrAt 10 cfg0.N = wit (m ((c : Thread nD τ).loc main_arg0)) (m ((c : Thread nD τ).loc main_arg1)) := by
  refine (dats m 0 c).arrAt_eq_of_covers 10 _ (by decide +kernel) fun t _ y => ?_
  blk_simp
  rw [after0_10]
  idx_vars y
  have ht := (idx t).2.2.2.2.2.2.2.2.2.2.2.2
  have hb : t.val / 4 < 16 := by omega
  have hp : t.val % 4 < 4 := by omega
  obtain rfl : y0 = 0 := Subsingleton.elim _ _
  refine (headWeight _ _ _ _ _ _ _ _ _ _ _ (held m c t hb hp) y1 y2 y3).trans ?_
  generalize wit (m ((c : Thread nD τ).loc main_arg0)) (m ((c : Thread nD τ).loc main_arg1)) = v
  blk_ext [idx t]

/-- The keys after the run. -/
theorem final11 (c : Dev nD) : (dats m 0 c).arrAt 11 cfg0.N = kn (m ((c : Thread nD τ).loc main_arg0)) (m ((c : Thread nD τ).loc main_arg1)) := by
  refine (dats m 0 c).arrAt_eq_of_covers 11 _ (by decide +kernel) fun t _ y => ?_
  blk_simp
  rw [after0_11]
  idx_vars y
  have ht := (idx t).2.2.2.2.2.2.2.2.2.2.2.2
  have hb : t.val / 4 < 16 := by omega
  have hp : t.val % 4 < 4 := by omega
  obtain rfl : y0 = 0 := Subsingleton.elim _ _
  refine (key _ _ _ _ _ _ _ _ _ _ _ (held m c t hb hp) y1 y2).trans ?_
  unfold tok
  generalize kn (m ((c : Thread nD τ).loc main_arg0)) (m ((c : Thread nD τ).loc main_arg1)) = v
  blk_ext [idx t]

end Cert.ProjectIdeal.Result

end
-- ==== Proof.ProjectAlgebraic.lean ====
module

public import proofs.«01_k».proof.Defs
public import proofs.«01_k».proof.Proof.Gen.ProjectReferenceIdeal.Run
public import proofs.«01_k».proof.Proof.ProjectRowEq
public import proofs.«01_k».proof.Proof.ProjectResult
public import Idealize.ShloMosaic.Lib.Claim

/-! The projection kernel's run and its reference's end in the same five results, and the reference's run leaves its arguments as they were. -/

@[expose] public section

set_option maxRecDepth 16384

noncomputable section

namespace Cert.Proof

open Idealize.ShloMosaic Idealize.ShloMosaic.TcCoe Idealize.SL.Sem

theorem same_query
    (m : (ℓ : Loc Cert.ProjectIdeal.nD Cert.ProjectIdeal.τ Cert.ProjectIdeal.sig) → Buf (Elt Ideal) ℓ) (m' : (ℓ : Loc Cert.ProjectReferenceIdeal.nD Cert.ProjectReferenceIdeal.τ Cert.ProjectReferenceIdeal.sig) → Buf (Elt Ideal) ℓ) (c : Dev Cert.ProjectIdeal.nD)
    (h0 : m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0))
    (h1 : m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) :
    Cert.ProjectReferenceIdeal.Rows.qt (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1))
      = (Cert.ProjectIdeal.Gen.dats m 0 c).arrAt 7 Cert.ProjectIdeal.cfg0.N := by
  refine Eq.trans ?_ (Cert.ProjectIdeal.Result.final7 m c).symm
  rw [h0, h1]

theorem same_indexQuery
    (m : (ℓ : Loc Cert.ProjectIdeal.nD Cert.ProjectIdeal.τ Cert.ProjectIdeal.sig) → Buf (Elt Ideal) ℓ) (m' : (ℓ : Loc Cert.ProjectReferenceIdeal.nD Cert.ProjectReferenceIdeal.τ Cert.ProjectReferenceIdeal.sig) → Buf (Elt Ideal) ℓ) (c : Dev Cert.ProjectIdeal.nD)
    (h0 : m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0))
    (h1 : m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) :
    Cert.ProjectReferenceIdeal.Rows.qit (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1))
      = (Cert.ProjectIdeal.Gen.dats m 0 c).arrAt 8 Cert.ProjectIdeal.cfg0.N := by
  refine Eq.trans ?_ (Cert.ProjectIdeal.Result.final8 m c).symm
  rw [h0, h1]

theorem same_value
    (m : (ℓ : Loc Cert.ProjectIdeal.nD Cert.ProjectIdeal.τ Cert.ProjectIdeal.sig) → Buf (Elt Ideal) ℓ) (m' : (ℓ : Loc Cert.ProjectReferenceIdeal.nD Cert.ProjectReferenceIdeal.τ Cert.ProjectReferenceIdeal.sig) → Buf (Elt Ideal) ℓ) (c : Dev Cert.ProjectIdeal.nD)
    (h0 : m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0))
    (h1 : m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) :
    Cert.ProjectReferenceIdeal.Rows.vt (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1))
      = (Cert.ProjectIdeal.Gen.dats m 0 c).arrAt 9 Cert.ProjectIdeal.cfg0.N := by
  refine Eq.trans ?_ (Cert.ProjectIdeal.Result.final9 m c).symm
  rw [h0, h1]

theorem same_headWeight
    (m : (ℓ : Loc Cert.ProjectIdeal.nD Cert.ProjectIdeal.τ Cert.ProjectIdeal.sig) → Buf (Elt Ideal) ℓ) (m' : (ℓ : Loc Cert.ProjectReferenceIdeal.nD Cert.ProjectReferenceIdeal.τ Cert.ProjectReferenceIdeal.sig) → Buf (Elt Ideal) ℓ) (c : Dev Cert.ProjectIdeal.nD)
    (h0 : m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0))
    (h1 : m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) :
    Cert.ProjectReferenceIdeal.Rows.wit (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1))
      = (Cert.ProjectIdeal.Gen.dats m 0 c).arrAt 10 Cert.ProjectIdeal.cfg0.N := by
  refine Eq.trans ?_ (Cert.ProjectIdeal.Result.final10 m c).symm
  rw [h0, h1]

theorem same_key
    (m : (ℓ : Loc Cert.ProjectIdeal.nD Cert.ProjectIdeal.τ Cert.ProjectIdeal.sig) → Buf (Elt Ideal) ℓ) (m' : (ℓ : Loc Cert.ProjectReferenceIdeal.nD Cert.ProjectReferenceIdeal.τ Cert.ProjectReferenceIdeal.sig) → Buf (Elt Ideal) ℓ) (c : Dev Cert.ProjectIdeal.nD)
    (h0 : m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0))
    (h1 : m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) :
    Cert.ProjectReferenceIdeal.Rows.kn (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg1))
      = (Cert.ProjectIdeal.Gen.dats m 0 c).arrAt 11 Cert.ProjectIdeal.cfg0.N := by
  refine Eq.trans ?_ (Cert.ProjectIdeal.Result.final11 m c).symm
  rw [h0, h1]

set_option maxHeartbeats 3200000 in
/-- The kernel's results are the reference's. -/
theorem project_algebraic : Cert.algebraic_ProjectIdeal_ProjectReferenceIdeal (hProjectIdeal := Cert.ProjectIdeal.Gen.facts) (hProjectReferenceIdeal := Cert.ProjectReferenceIdeal.Gen.facts) := by
  pair_intro
  · run_from Cert.ProjectIdeal.Gen.run_main m g
  · refine (θ_run _ _ _).mono (fun r h c => ⟨(h c).1.trans ?_, (h c).2.1.trans ?_, (h c).2.2.1.trans ?_, (h c).2.2.2.1.trans ?_, (h c).2.2.2.2.1.trans ?_, (h c).2.2.2.2.2⟩)
      (Cert.ProjectReferenceIdeal.Value.run m' g')
    · exact (Cert.ProjectReferenceIdeal.Rows.qt_eq m' c).trans (same_query m m' c (hagree c).1 (hagree c).2)
    · exact (Cert.ProjectReferenceIdeal.Rows.qit_eq m' c).trans (same_indexQuery m m' c (hagree c).1 (hagree c).2)
    · exact same_value m m' c (hagree c).1 (hagree c).2
    · exact same_headWeight m m' c (hagree c).1 (hagree c).2
    · exact (Cert.ProjectReferenceIdeal.Rows.kn_eq m' c).trans (same_key m m' c (hagree c).1 (hagree c).2)

/-- The reference ends with its arguments unchanged and every counter at zero. -/
theorem project_reference_runs : Cert.quiescent_ProjectReferenceIdeal (hProjectReferenceIdeal := Cert.ProjectReferenceIdeal.Gen.facts) := by
  intro m g _
  exact (θ_run _ _ _).mono (fun r h => ⟨fun c => (h c).2.2.2.2.2, sem_eq_zero_of_no_sems (by decide) r.2⟩) (Cert.ProjectReferenceIdeal.Value.run m g)

end Cert.Proof

end
-- ==== Proof.CombineRow.lean ====
module

public import proofs.«01_k».proof.Proof.Row
public import proofs.«01_k».proof.Proof.Gen.CombineIdeal.Skeleton
public import Idealize.ShloMosaic.Lib.StableHlo.Predicate

/-! One token's row of the layer's result: the row the last layer norm is taken of, from the token's row of the residual
    stream, its two gates and the packed rows of its two experts. The kernel's product with a matrix that has two entries
    in each row is a sum of two terms. -/

@[expose] public section

set_option maxRecDepth 16384

noncomputable section

namespace Cert.CombineRow

open Idealize.ShloMosaic Idealize.ShloMosaic.TcCoe Idealize.SL.Sem

/-- Column `j` of a packed row: the upper half of a word for the first 512 columns, the lower half for the others. -/
def cell (w : Fin 512 → BitVec 32) (j : Fin 1024) : EReal :=
  if h : j.val < 512 then Ideal.ofBits .f32 (w ⟨j.val, h⟩ &&& 4294901760#32)
  else Ideal.ofBits .f32 (w ⟨j.val - 512, by omega⟩ <<< 16#32)

/-- The row the layer norm is taken of: the scaled residual plus the two gated rows. -/
def total (h : Fin 1024 → EReal) (g0 g1 : EReal) (w0 w1 : Fin 512 → BitVec 32) (j : Fin 1024) : EReal :=
  Ideal.ofBits .f32 0x3F9837F0#32 * h j + (g0 * cell w0 j + g1 * cell w1 j)

/-- A word shifted left by sixteen, on the host or on a vector unit. -/
theorem shifted (u : ArithUnit) (w : BitVec 32) : IntOp.shli u w 16#32 = w <<< 16#32 := by
  unfold IntOp.shli
  exact if_pos (by decide)

/-- The choice between a weight and zero by comparing two row numbers. -/
theorem chosen (g : EReal) (k p : Fin 1280) :
    Scalar.select (IntOp.cmpi .eq (BitVec.ofNat 32 k.val) (BitVec.ofNat 32 p.val)) g 0 = if k = p then g else 0 := by
  have e : IntOp.cmpi .eq (BitVec.ofNat 32 k.val) (BitVec.ofNat 32 p.val) = 1#1 ↔ k = p := by
    rw [StableHlo.Predicate.cmpi_eq_iff]
    refine ⟨fun h => Fin.ext ?_, fun h => by rw [h]⟩
    have h' := congrArg BitVec.toNat h
    simp only [BitVec.toNat_ofNat] at h'
    omega
  unfold Scalar.select
  by_cases h : k = p
  · exact (if_pos (e.2 h)).trans (if_pos h).symm
  · exact (if_neg fun h' => h (e.1 h')).trans (if_neg h).symm

/-- A sum over all rows with a weight at two of them has two terms. -/
theorem sum_two (f : Fin 1280 → EReal) (g0 g1 : EReal) (p q : Fin 1280) (h : p ≠ q) :
    ∑ k, ((if k = p then g0 else 0) + (if k = q then g1 else 0)) * f k = g0 * f p + g1 * f q := by
  have e : ∀ k, ((if k = p then g0 else 0) + (if k = q then g1 else 0)) * f k
      = (if k = p then g0 * f p else 0) + (if k = q then g1 * f q else 0) := by
    intro k
    by_cases hp : k = p
    · subst hp
      rw [if_pos rfl, if_pos rfl, if_neg h, if_neg h, add_zero, add_zero]
    · by_cases hq : k = q
      · subst hq
        rw [if_neg hp, if_neg hp, if_pos rfl, if_pos rfl, zero_add, zero_add]
      · rw [if_neg hp, if_neg hp, if_neg hq, if_neg hq, add_zero, zero_mul]
  rw [Finset.sum_congr rfl fun k _ => e k, Finset.sum_add_distrib, Finset.sum_ite_eq' Finset.univ p,
    Finset.sum_ite_eq' Finset.univ q, if_pos (Finset.mem_univ _), if_pos (Finset.mem_univ _)]

end Cert.CombineRow

end
-- ==== Proof.CombineBlock.lean ====
module

public import proofs.«01_k».proof.Proof.CombineRow
public import proofs.«01_k».proof.Proof.Gen.CombineIdeal.Frame

/-! What the kernel computes over one tile of 512 tokens, one token at a time. -/

@[expose] public section

set_option maxRecDepth 16384

noncomputable section

namespace Cert.CombineIdeal.Rows

open Idealize.ShloMosaic Idealize.ShloMosaic.TcCoe Idealize.SL.Sem
open Cert.CombineIdeal Cert.CombineIdeal.Gen

/-- The row the layer norm is taken of, for a token whose positions are `p` and `q`. -/
theorem total_at (w : Vec Ideal S1x1280x512 .i32) (p0 : Vec Ideal S512x1 .i32) (g0 : Vec Ideal S512x1 .f32)
    (p1 : Vec Ideal S512x1 .i32) (g1 : Vec Ideal S512x1 .f32) (h : Vec Ideal S512x1024 .f32) (a : Fin 512) (j : Fin 1024)
    (p q : Fin 1280) (hp : p0 (ix2 a 0) = BitVec.ofNat 32 p.val) (hq : p1 (ix2 a 0) = BitVec.ofNat 32 q.val) (hne : p ≠ q) :
    k0_pay2 (F := Ideal) w p0 g0 p1 g1 h (ix2 a j)
      = Cert.CombineRow.total (fun k => h (ix2 a k)) (g0 (ix2 a 0)) (g1 (ix2 a 0)) (fun k => w (ix3 0 p k)) (fun k => w (ix3 0 q k)) j := by
  unfold Cert.CombineRow.total
  rw [← Cert.CombineRow.sum_two (fun k => Cert.CombineRow.cell (fun c => w (ix3 0 k c)) j) _ _ p q hne]
  pointwise [k0_pay2, Cert.CombineRow.cell]
  rw [hp, hq]
  simp only [Cert.CombineRow.chosen, Cert.CombineRow.shifted]
  rfl

/-- The layer norm of it. -/
theorem norm_at (v : FVec Ideal S512x1024 .f32) (g b : Vec Ideal S1x1024 .f32) (a : Fin 512) (j : Fin 1024) :
    k0_pay1 (F := Ideal) v (k0_pay3 (F := Ideal) g) b (ix2 a j)
      = Cert.MixRow.norm (fun k => v (ix2 a k)) (fun k => g (ix2 0 k)) (fun k => b (ix2 0 k)) j := by
  pointwise [k0_pay1, k0_pay3, Cert.MixRow.norm, Cert.MixRow.mean]

end Cert.CombineIdeal.Rows

end
-- ==== Proof.CombinePlain.lean ====
module

public import proofs.«01_k».proof.Proof.CombineRow
public import proofs.«01_k».proof.Proof.Gen.CombineReferenceIdeal.Run
public import Idealize.ShloMosaic.Lib.Routing.Ops

/-! The reference's result, one token at a time. -/

@[expose] public section

set_option maxRecDepth 16384

noncomputable section

namespace Cert.CombineReferenceIdeal.Rows

open Idealize.ShloMosaic Idealize.ShloMosaic.TcCoe Idealize.SL.Sem
open Cert.CombineReferenceIdeal Cert.CombineReferenceIdeal.Gen

/-- The unpacked rows, tile after tile. -/
def rows (w : IVec S64x1280x512 32) : FVec Ideal S81920x1024 .f32 :=
  shapeCast _ (concatenate S64x1280x1024 2 [⟨S64x1280x512, (bitcastToFloat (F := Ideal) .f32 (andi w (broadcastInDim S64x1280x512 ![] bcast_S_S64x1280x512 (constantI S_ 32 4294901760#32))))⟩,
    ⟨S64x1280x512, (bitcastToFloat (F := Ideal) .f32 (Host.shli w (broadcastInDim S64x1280x512 ![] bcast_S_S64x1280x512 (constantI S_ 32 16#32))))⟩]
    concatenates_S64x1280x512_S64x1280x512_S64x1280x1024_d2) shapeCasts_S64x1280x1024_S81920x1024

/-- The number of the row at a position of the token's tile. -/
def place (p : IVec S32768x1 32) : IVec S32768 32 :=
  addi (muli (shapeCast _ (iotaInDim S64x512 32 0) shapeCasts_S64x512_S32768) (broadcastInDim S32768 ![] bcast_S_S32768 (constantI S_ 32 1280#32)))
    (shapeCast _ p shapeCasts_S32768x1_S32768)

/-- … counted from the end where it is negative, as a column. -/
def index (p : IVec S32768x1 32) : IVec S32768x1 32 :=
  broadcastInDim S32768x1 ![0] bcast_S32768_S32768x1_0
    (select (cmpi .slt (place p) (broadcastInDim S32768 ![] bcast_S_S32768 (constantI S_ 32 0#32)))
      (addi (place p) (broadcastInDim S32768 ![] bcast_S_S32768 (constantI S_ 32 81920#32))) (place p))

/-- Each token's gate times the row at its position. -/
def weighted (w : IVec S64x1280x512 32) (p : IVec S32768x1 32) (g : FVec Ideal S32768x1 .f32) : FVec Ideal S32768x1024 .f32 :=
  mulf (broadcastInDim S32768x1024 ![0, 1] bcast_S32768x1_S32768x1024_0_1 g)
    (Host.gather gather_S81920x1024_S32768x1_S32768x1024_1_0_n_n_0_1_11024 (rows w) (index p))

/-- The residual stream the layer norm is taken of. -/
def res (h : FVec Ideal S32768x1024 .f32) (f : FVec Ideal S32768x1024 .f32) : FVec Ideal S32768x1024 .f32 :=
  addf (mulf (broadcastInDim S32768x1024 ![] bcast_S_S32768x1024 (constant (F := Ideal) S_ .f32 0x3F9837F0#32)) h) f

/-- Each row's mean, as a column. -/
def mean (v : FVec Ideal S32768x1024 .f32) : FVec Ideal S32768x1 .f32 :=
  Host.divf (broadcastInDim S32768x1 ![0] bcast_S32768_S32768x1_0 (Host.reduceAdd v (constant (F := Ideal) S_ .f32 0x00000000#32) reducesTo_S32768x1024_S32768_d1 h_S_))
    (broadcastInDim S32768x1 ![] bcast_S_S32768x1 (constant (F := Ideal) S_ .f32 0x44800000#32))

/-- The layer norm. -/
def ln (v : FVec Ideal S32768x1024 .f32) (g b : FVec Ideal S1024 .f32) : FVec Ideal S32768x1024 .f32 :=
  addf (mulf (mulf (subf v (broadcastInDim S32768x1024 ![0, 1] bcast_S32768x1_S32768x1024_0_1 (mean v)))
     (broadcastInDim S32768x1024 ![0, 1] bcast_S32768x1_S32768x1024_0_1 (Host.rsqrt (addf
       (mean (mulf (subf v (broadcastInDim S32768x1024 ![0, 1] bcast_S32768x1_S32768x1024_0_1 (mean v))) (subf v (broadcastInDim S32768x1024 ![0, 1] bcast_S32768x1_S32768x1024_0_1 (mean v)))))
       (broadcastInDim S32768x1 ![] bcast_S_S32768x1 (constant (F := Ideal) S_ .f32 0x3727C5AC#32))))))
     (broadcastInDim S32768x1024 ![0, 1] bcast_S1x1024_S32768x1024_0_1 (broadcastInDim S1x1024 ![1] bcast_S1024_S1x1024_1 g)))
   (broadcastInDim S32768x1024 ![0, 1] bcast_S1x1024_S32768x1024_0_1 (broadcastInDim S1x1024 ![1] bcast_S1024_S1x1024_1 b))

/-- The whole reference over its arrays. -/
def whole (w : IVec S64x1280x512 32) (p : IVec S32768x2 32) (g : FVec Ideal S32768x2 .f32) (h : FVec Ideal S32768x1024 .f32)
    (s b : FVec Ideal S1024 .f32) : FVec Ideal S32768x1024 .f32 :=
  ln (res h (addf
    (weighted w (extractStridedSlice S32768x1 ![0, 0] p slices_S32768x2_S32768x1_0_0) (extractStridedSlice S32768x1 ![0, 0] g slices_S32768x2_S32768x1_0_0))
    (weighted w (extractStridedSlice S32768x1 ![0, 1] p slices_S32768x2_S32768x1_0_1) (extractStridedSlice S32768x1 ![0, 1] g slices_S32768x2_S32768x1_0_1)))) s b

set_option maxHeartbeats 1600000 in
/-- The reference's result is the staged form above. -/
theorem result_eq (m : (ℓ : Loc nD τ sig) → Buf (Elt Ideal) ℓ) (c : Dev nD) :
    Cert.CombineReferenceIdeal.Value.res_main_v65 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) := rfl

/-- An unpacked row of a tile. -/
theorem rows_at (w : IVec S64x1280x512 32) (t : Fin 64) (p : Fin 1280) (j : Fin 1024) (h : 1280 * t.val + p.val < 81920) :
    rows w (ix2 ⟨1280 * t.val + p.val, h⟩ j) = Cert.CombineRow.cell (fun k => w (ix3 t p k)) j := by
  pointwise [rows, Cert.CombineRow.cell]
  simp only [Cert.CombineRow.shifted]
  rfl

/-- The row's number, where the position lies in the tile. -/
theorem index_at (p : IVec S32768x1 32) (r : Fin 32768) (n : Fin 1280) (hn : p (ix2 r 0) = BitVec.ofNat 32 n.val) :
    index p (ix2 r 0) = BitVec.ofNat 32 (1280 * (r.val / 512) + n.val) := by
  have e : place p (ix1 r) = BitVec.ofNat 32 (1280 * (r.val / 512) + n.val) := by
    pointwise [place]
    rw [hn]
    show BitVec.ofNat 32 (r.val / 512) * 1280#32 + BitVec.ofNat 32 n.val = _
    refine BitVec.eq_of_toNat_eq ?_
    simp only [BitVec.toNat_add, BitVec.toNat_mul, BitVec.toNat_ofNat]
    omega
  pointwise [index]
  rw [e]
  have hs : ¬ IntOp.cmpi .slt (BitVec.ofNat 32 (1280 * (r.val / 512) + n.val)) 0#32 = 1#1 := by
    have hlt : (BitVec.ofNat 32 (1280 * (r.val / 512) + n.val)).toNat < 2 ^ 31 := by
      rw [BitVec.toNat_ofNat, Nat.mod_eq_of_lt (by omega)]; omega
    rw [StableHlo.Predicate.slt_iff_toNat hlt (by decide)]
    exact Nat.not_lt_zero _
  unfold Scalar.select
  exact if_neg hs

/-- A token's weighted row. -/
theorem weighted_at (w : IVec S64x1280x512 32) (p : IVec S32768x1 32) (g : FVec Ideal S32768x1 .f32) (r : Fin 32768) (j : Fin 1024)
    (n : Fin 1280) (hn : p (ix2 r 0) = BitVec.ofNat 32 n.val) :
    weighted w p g (ix2 r j) = g (ix2 r 0) * Cert.CombineRow.cell (fun k => w (ix3 (⟨r.val / 512, by omega⟩ : Fin 64) n k)) j := by
  have e := Idealize.ShloMosaic.Routing.gather_row gather_S81920x1024_S32768x1_S32768x1024_1_0_n_n_0_1_11024 rfl rfl rfl rfl rfl (rows w) (index p) r j
    ⟨1280 * (r.val / 512) + n.val, by omega⟩ (index_at p r n hn) (by decide)
  have e2 := rows_at w (⟨r.val / 512, by omega⟩ : Fin 64) n j (by dsimp only; omega)
  unfold weighted
  pointwise
  exact congrArg _ (e.trans e2)

/-- A row's mean. -/
theorem mean_at (v : FVec Ideal S32768x1024 .f32) (r : Fin 32768) (z : Fin 1) :
    mean v (ix2 r z) = Cert.MixRow.mean (fun k => v (ix2 r k)) := by
  pointwise [mean, Cert.MixRow.mean]

/-- The layer norm, at a token. -/
theorem ln_at (v : FVec Ideal S32768x1024 .f32) (g b : FVec Ideal S1024 .f32) (r : Fin 32768) (j : Fin 1024) :
    ln v g b (ix2 r j) = Cert.MixRow.norm (fun k => v (ix2 r k)) (fun k => g (ix1 k)) (fun k => b (ix1 k)) j := by
  pointwise [ln, Cert.MixRow.norm, mean_at]

/-- The reference at a token whose positions are `n` and `q`. -/
theorem whole_at (w : IVec S64x1280x512 32) (p : IVec S32768x2 32) (g : FVec Ideal S32768x2 .f32) (h : FVec Ideal S32768x1024 .f32)
    (s b : FVec Ideal S1024 .f32) (r : Fin 32768) (j : Fin 1024) (n q : Fin 1280)
    (hn : p (ix2 r 0) = BitVec.ofNat 32 n.val) (hq : p (ix2 r 1) = BitVec.ofNat 32 q.val) :
    whole w p g h s b (ix2 r j)
      = Cert.MixRow.norm (Cert.CombineRow.total (fun k => h (ix2 r k)) (g (ix2 r 0)) (g (ix2 r 1))
          (fun k => w (ix3 (⟨r.val / 512, by omega⟩ : Fin 64) n k)) (fun k => w (ix3 (⟨r.val / 512, by omega⟩ : Fin 64) q k)))
          (fun k => s (ix1 k)) (fun k => b (ix1 k)) j := by
  have hn' : extractStridedSlice S32768x1 ![0, 0] p slices_S32768x2_S32768x1_0_0 (ix2 r 0) = BitVec.ofNat 32 n.val := by
    pointwise; exact hn
  have hq' : extractStridedSlice S32768x1 ![0, 1] p slices_S32768x2_S32768x1_0_1 (ix2 r 0) = BitVec.ofNat 32 q.val := by
    pointwise; exact hq
  unfold whole
  rw [ln_at]
  refine congrArg (fun v => Cert.MixRow.norm v _ _ j) (funext fun k => ?_)
  unfold res
  pointwise [weighted_at _ _ _ _ _ n hn', weighted_at _ _ _ _ _ q hq', Cert.CombineRow.total]

end Cert.CombineReferenceIdeal.Rows

end
-- ==== Proof.CombineResult.lean ====
module

public import proofs.«01_k».proof.Proof.CombineBlock
public import proofs.«01_k».proof.Proof.CombinePlain
public import Idealize.ShloMosaic.Lib.Pipeline.ValueKit
public import proofs.«01_k».proof.Proof.Gen.CombineIdeal.Value
public import Idealize.ShloMosaic.Lib.Claim

/-! The array the kernel ends with is the reference's result, where each token's two positions lie in its tile and differ. -/

@[expose] public section

set_option maxRecDepth 16384

noncomputable section

open Idealize.ShloMosaic Idealize.ShloMosaic.TcCoe Idealize.SL.Sem
open Idealize.ShloMosaic.Pipeline (Dat)

namespace Cert.CombineIdeal.Result

open Cert.CombineIdeal Cert.CombineIdeal.Gen

variable (m : (ℓ : Loc nD τ sig) → Buf (Elt Ideal) ℓ)

/-- Every window's block index, at every point. -/
theorem idx : ∀ t : Fin cfg0.N, win0_0.index t = ![t.val, 0, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ t.val < 64 :=
  (by decide +kernel : ∀ t : Fin grid0.N, _)

/-- A tile's packed rows. -/
theorem words_at (c : Dev nD) (t : Fin cfg0.N) (k : Fin 1280) (q : Fin 512) (h : t.val < 64) :
    iblk m c 0 t (ix3 0 k q) = m ((c : Thread nD τ).loc main_arg0) (ix3 (⟨t.val, h⟩ : Fin 64) k q) := by
  blk_point [iblk, V, idx t]

/-- A tile's positions. -/
theorem pos_at (c : Dev nD) (t : Fin cfg0.N) (a : Fin 512) (z : Fin 2) (h : 512 * t.val + a.val < 32768) :
    iblk m c 1 t (ix2 a z) = m ((c : Thread nD τ).loc main_arg1) (ix2 (⟨512 * t.val + a.val, h⟩ : Fin 32768) z) := by
  blk_point [iblk, V, idx t]

/-- A tile's gates. -/
theorem gate_at (c : Dev nD) (t : Fin cfg0.N) (a : Fin 512) (z : Fin 2) (h : 512 * t.val + a.val < 32768) :
    iblk m c 2 t (ix2 a z) = m ((c : Thread nD τ).loc main_arg2) (ix2 (⟨512 * t.val + a.val, h⟩ : Fin 32768) z) := by
  blk_point [iblk, V, idx t]

/-- A tile of the residual stream. -/
theorem h_at (c : Dev nD) (t : Fin cfg0.N) (a : Fin 512) (k : Fin 1024) (h : 512 * t.val + a.val < 32768) :
    iblk m c 3 t (ix2 a k) = m ((c : Thread nD τ).loc main_arg3) (ix2 (⟨512 * t.val + a.val, h⟩ : Fin 32768) k) := by
  blk_point [iblk, V, idx t]

/-- The norm's scale. -/
theorem g_at (c : Dev nD) (t : Fin cfg0.N) (q : Fin 1024) :
    iblk m c 4 t (ix2 0 q) = m ((c : Thread nD τ).loc main_arg4) (ix1 q) := by
  blk_simp [iblk, idx t]
  entry_read
  pointwise [idx t]
  blk_ext [idx t]

/-- The norm's shift. -/
theorem b_at (c : Dev nD) (t : Fin cfg0.N) (q : Fin 1024) :
    iblk m c 5 t (ix2 0 q) = m ((c : Thread nD τ).loc main_arg5) (ix1 q) := by
  blk_simp [iblk, idx t]
  entry_read
  pointwise [idx t]
  blk_ext [idx t]

/-- What the body stores for a token, from the blocks it reads. -/
theorem out_at (x0 : Vec Ideal S1x1280x512 .i32) (x1 : Vec Ideal S512x2 .i32) (x2 : Vec Ideal S512x2 .f32) (x3 : Vec Ideal S512x1024 .f32)
    (x4 x5 : Vec Ideal S1x1024 .f32) (a : Fin 512) (j : Fin 1024) (p q : Fin 1280)
    (hp : x1 (ix2 a 0) = BitVec.ofNat 32 p.val) (hq : x1 (ix2 a 1) = BitVec.ofNat 32 q.val) (hne : p ≠ q) :
    out0_6 x0 x1 x2 x3 x4 x5 (ix2 a j)
      = Cert.MixRow.norm (Cert.CombineRow.total (fun k => x3 (ix2 a k)) (x2 (ix2 a 0)) (x2 (ix2 a 1)) (fun k => x0 (ix3 0 p k)) (fun k => x0 (ix3 0 q k)))
          (fun k => x4 (ix2 0 k)) (fun k => x5 (ix2 0 k)) j := by
  unfold out0_6
  refine (View.canon_apply_of_pieces (k0_pay1 (F := Ideal) (k0_pay2 (F := Ideal) (View.ld x0 r0_0) (View.ld x1 r0_1) (View.ld x2 r0_1) (View.ld x1 r0_2) (View.ld x2 r0_2) (View.ld x3 r0_3))
    (k0_pay3 (F := Ideal) (View.ld x4 r0_4)) (View.ld x5 r0_4)) _ ?_ (ix2 a j) (cover0_6 _ _)).trans ?_
  · intro pc hpc
    rcases List.mem_cons.mp hpc with rfl | hpc
    · intro x
      exact congrArg _ (funext fun i => match i with | ⟨0, _⟩ => Fin.ext (by show _ = 0 + 1 * _; omega) | ⟨1, _⟩ => Fin.ext (by show _ = 0 + 1 * _; omega))
    · nomatch hpc
  have hp' : View.ld x1 r0_1 (ix2 a 0) = BitVec.ofNat 32 p.val := by
    pointwise; exact hp
  have hq' : View.ld x1 r0_2 (ix2 a 0) = BitVec.ofNat 32 q.val := by
    pointwise; exact hq
  refine (Rows.norm_at _ _ _ a j).trans ?_
  have e : (fun k => k0_pay2 (F := Ideal) (View.ld x0 r0_0) (View.ld x1 r0_1) (View.ld x2 r0_1) (View.ld x1 r0_2) (View.ld x2 r0_2) (View.ld x3 r0_3) (ix2 a k))
      = Cert.CombineRow.total (fun k => x3 (ix2 a k)) (x2 (ix2 a 0)) (x2 (ix2 a 1)) (fun k => x0 (ix3 0 p k)) (fun k => x0 (ix3 0 q k)) := by
    funext k
    refine (Rows.total_at _ _ _ _ _ _ a k p q hp' hq' hne).trans ?_
    pointwise
  rw [e]
  pointwise

/-- The array after the run. -/
theorem final (c : Dev nD)
    (hpos : ∀ r : Fin 32768, ∃ n q : Fin 1280, n ≠ q ∧ m ((c : Thread nD τ).loc main_arg1) (ix2 r 0) = BitVec.ofNat 32 n.val
      ∧ m ((c : Thread nD τ).loc main_arg1) (ix2 r 1) = BitVec.ofNat 32 q.val) :
    (dats m 0 c).arrAt 6 cfg0.N
      = Cert.CombineReferenceIdeal.Rows.whole (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  have ht := (idx t).2.2.2.2.2.2.2
  have hr : 512 * t.val + y0.val < 32768 := by omega
  obtain ⟨n, q, hne, hn, hq⟩ := hpos ⟨512 * t.val + y0.val, hr⟩
  refine (out_at _ _ _ _ _ _ y0 y1 n q ((pos_at m c t y0 0 hr).trans hn) ((pos_at m c t y0 1 hr).trans hq) hne).trans ?_
  simp only [h_at m c t y0 _ hr, gate_at m c t y0 _ hr, words_at m c t _ _ ht, g_at, b_at]
  have ed : (⟨(512 * t.val + y0.val) / 512, by omega⟩ : Fin 64) = ⟨t.val, ht⟩ := Fin.ext (by show (512 * t.val + y0.val) / 512 = t.val; omega)
  have w := Cert.CombineReferenceIdeal.Rows.whole_at (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) ⟨512 * t.val + y0.val, hr⟩ y1 n q hn hq
  rw [show (⟨(⟨512 * t.val + y0.val, hr⟩ : Fin 32768).val / 512, by omega⟩ : Fin 64) = ⟨t.val, ht⟩ from ed] at w
  refine Eq.trans w.symm ?_
  blk_ext! [idx t]

end Cert.CombineIdeal.Result

end
-- ==== Proof.CombineAlgebraic.lean ====
module

public import proofs.«01_k».proof.Defs
public import proofs.«01_k».proof.Proof.Gen.CombineReferenceIdeal.Run
public import proofs.«01_k».proof.Proof.Gen.Pre_two_rows
public import proofs.«01_k».proof.Proof.CombineResult
public import Idealize.ShloMosaic.Lib.StableHlo.Predicate
public import Idealize.ShloMosaic.Lib.Claim

/-! The combine kernel's run and its reference's end in the same result, where each token's two positions lie in its tile and differ. -/

@[expose] public section

set_option maxRecDepth 16384

noncomputable section

namespace Cert.Proof

open Idealize.ShloMosaic Idealize.ShloMosaic.TcCoe Idealize.SL.Sem

/-- A word that is at least zero and below 1280, compared as signed numbers, is one of 0, …, 1279. -/
theorem row_of_bounds (v : BitVec 32) (h0 : IntOp.cmpi .sge v 0#32 = 1#1) (h1 : IntOp.cmpi .slt v 1280#32 = 1#1) :
    ∃ n : Fin 1280, v = BitVec.ofNat 32 n.val := by
  have hpos : (0 : Int) ≤ v.toInt := IntOp.cmpi_sge.mp h0
  have hlt : v.toNat < 2 ^ 31 := by
    rw [BitVec.toInt_eq_toNat_cond] at hpos
    have hv := v.isLt
    split at hpos <;> omega
  have hn := (StableHlo.Predicate.slt_iff_toNat hlt (by decide)).mp h1
  exact ⟨⟨v.toNat, hn⟩, (BitVec.ofNat_toNat 32 v ▸ (BitVec.setWidth_eq v).symm)⟩

/-- What the precondition says of a token's two positions. -/
theorem two_rows_at (w : IVec Cert.Pre_two_rows.S64x1280x512 32) (p : IVec Cert.Pre_two_rows.S32768x2 32) (g : FVec Ideal Cert.Pre_two_rows.S32768x2 .f32)
    (h : FVec Ideal Cert.Pre_two_rows.S32768x1024 .f32) (s b : FVec Ideal Cert.Pre_two_rows.S1024 .f32)
    (hpre : Cert.Pre_two_rows.fn (F := Ideal) w p g h s b = fun _ => 1#1) (r : Fin 32768) :
    ∃ n q : Fin 1280, n ≠ q ∧ p (ix2 r 0) = BitVec.ofNat 32 n.val ∧ p (ix2 r 1) = BitVec.ofNat 32 q.val := by
  have read : ∀ z : Fin 2, IntOp.andi (IntOp.andi (IntOp.cmpi .sge (p (ix2 r z)) 0#32) (IntOp.cmpi .slt (p (ix2 r z)) 1280#32))
      (IntOp.cmpi .ne (p (ix2 r 0)) (p (ix2 r 1))) = 1#1 := fun z => by
    have e := congrFun hpre (ix2 r z)
    refine Eq.trans ?_ e
    pointwise [Cert.Pre_two_rows.fn]
  have hand : ∀ c d : BitVec 1, IntOp.andi c d = 1#1 → c = 1#1 ∧ d = 1#1 := by decide
  have a0 := hand _ _ (read 0)
  have a1 := hand _ _ (read 1)
  have b0 := hand _ _ a0.1
  have b1 := hand _ _ a1.1
  obtain ⟨n, hn⟩ := row_of_bounds _ b0.1 b0.2
  obtain ⟨q, hq⟩ := row_of_bounds _ b1.1 b1.2
  refine ⟨n, q, fun e => ?_, hn, hq⟩
  have hne := a0.2
  rw [hn, hq, e] at hne
  simp [IntOp.cmpi] at hne

/-- The reference's result, from the kernel's arguments. -/
theorem same_combine (m : (ℓ : Loc Cert.CombineIdeal.nD Cert.CombineIdeal.τ Cert.CombineIdeal.sig) → Buf (Elt Ideal) ℓ)
    (m' : (ℓ : Loc Cert.CombineReferenceIdeal.nD Cert.CombineReferenceIdeal.τ Cert.CombineReferenceIdeal.sig) → Buf (Elt Ideal) ℓ) (c : Dev Cert.CombineIdeal.nD)
    (hpre : Cert.Pre_CombineIdeal_two_rows (hPre_two_rows := Cert.Pre_two_rows.Gen.facts) m)
    (h0 : m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0))
    (h1 : m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1))
    (h2 : m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2))
    (h3 : m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3))
    (h4 : m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4))
    (h5 : m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) :
    Cert.CombineReferenceIdeal.Value.res_main_v65 m' c = (Cert.CombineIdeal.Gen.dats m 0 c).arrAt 6 Cert.CombineIdeal.cfg0.N := by
  refine (Cert.CombineReferenceIdeal.Rows.result_eq m' c).trans (Eq.trans ?_ (Cert.CombineIdeal.Result.final m c (two_rows_at _ _ _ _ _ _ (hpre c))).symm)
  rw [h0, h1, h2, h3, h4, h5]

set_option maxHeartbeats 3200000 in
/-- The kernel's result is the reference's. -/
theorem combine_algebraic : Cert.algebraic_CombineIdeal_CombineReferenceIdeal_pre_two_rows (hCombineIdeal := Cert.CombineIdeal.Gen.facts)
    (hCombineReferenceIdeal := Cert.CombineReferenceIdeal.Gen.facts) (hPre_two_rows := Cert.Pre_two_rows.Gen.facts) := by
  pair_intro
  · run_from Cert.CombineIdeal.Gen.run_main m g
  · refine (θ_run _ _ _).mono (fun r h c => ⟨(h c).1.trans ?_, (h c).2⟩) (Cert.CombineReferenceIdeal.Value.run m' g')
    have e := hagree c
    exact same_combine m m' c hpre e.1 e.2.1 e.2.2.1 e.2.2.2.1 e.2.2.2.2.1 e.2.2.2.2.2

/-- The reference ends with its arguments unchanged and every counter at zero. -/
theorem combine_reference_runs : Cert.quiescent_CombineReferenceIdeal (hCombineReferenceIdeal := Cert.CombineReferenceIdeal.Gen.facts) := by
  intro m g _
  exact (θ_run _ _ _).mono (fun r h => ⟨fun c => (h c).2, sem_eq_zero_of_no_sems (by decide) r.2⟩) (Cert.CombineReferenceIdeal.Value.run m g)

/-- The same, where the positions satisfy the precondition. -/
theorem combine_reference_runs_two_rows : Cert.quiescent_CombineReferenceIdeal_pre_two_rows (hCombineReferenceIdeal := Cert.CombineReferenceIdeal.Gen.facts)
    (hPre_two_rows := Cert.Pre_two_rows.Gen.facts) := by
  intro m g _
  exact (θ_run _ _ _).mono (fun r h => ⟨fun c => (h c).2, sem_eq_zero_of_no_sems (by decide) r.2⟩) (Cert.CombineReferenceIdeal.Value.run m g)

end Cert.Proof

end
-- ==== Proof.lean ====
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixReferenceIdeal
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectReferenceIdeal
public import proofs.«01_k».proof.Proof.Gen.ProjectIdeal.Value
public import proofs.«01_k».proof.Proof.Gen.ProjectReferenceIdeal.Run
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineReferenceIdeal
public import proofs.«01_k».proof.Proof.Gen.Pre_two_rows
public import proofs.«01_k».proof.Proof.Gen.CombineIdeal.Value
public import proofs.«01_k».proof.Proof.Gen.CombineReferenceIdeal.Run
public import Idealize.ShloMosaic.Adequacy
public import Idealize.ShloMosaic.Init
public import proofs.«01_k».proof.Proof.Gen.MixIdeal.Value
public import proofs.«01_k».proof.Proof.Gen.MixReferenceIdeal.Run
public import Idealize.ShloMosaic.Lib.Bf16Pair
public import Idealize.ShloMosaic.Lib.Bf16PairInverse
public import Idealize.ShloMosaic.Lib.Claim
public import proofs.«01_k».proof.Proof.Reference
public import proofs.«01_k».proof.Proof.Algebraic
public import proofs.«01_k».proof.Proof.ProjectAlgebraic
public import proofs.«01_k».proof.Proof.CombineAlgebraic

/-! The claims about the mixer's kernel, the projections' and the combining one: their own runs and their idealizations', the references' runs, and the equality of their results. -/

@[expose] public section

noncomputable section

namespace Cert.Proof

open Idealize.ShloMosaic Idealize.SL.Sem Cert.Mix

/-- All the claims. -/
theorem claim : Cert.Claim := ⟨Cert.Mix.Gen.facts, Cert.MixIdeal.Gen.facts, Cert.MixReferenceIdeal.Gen.facts,
  Cert.Project.Gen.facts, Cert.ProjectIdeal.Gen.facts, Cert.ProjectReferenceIdeal.Gen.facts,
  Cert.Combine.Gen.facts, Cert.CombineIdeal.Gen.facts, Cert.CombineReferenceIdeal.Gen.facts, Cert.Pre_two_rows.Gen.facts,
  fun m ρ _ => Cert.Mix.Gen.frame m ρ, fun m ρ _ => Cert.MixIdeal.Gen.frame m ρ, reference_runs,
  fun m ρ _ => Cert.Project.Gen.frame m ρ, fun m ρ _ => Cert.ProjectIdeal.Gen.frame m ρ, project_reference_runs,
  fun m ρ _ => Cert.Combine.Gen.frame m ρ, fun m ρ _ => Cert.CombineIdeal.Gen.frame m ρ, fun m ρ _ => Cert.CombineIdeal.Gen.frame m ρ,
  combine_reference_runs, combine_reference_runs_two_rows,
  ⟨IdealRules.bf16_pair.bufferStatement _ _, IdealRules.bf16_pair.bufferStatement _ _, IdealRules.bf16_pair.statement _ _ (by decide), IdealRules.bf16_pack.statement _⟩,
  algebraic, trivial, project_algebraic, trivial, combine_algebraic⟩

end Cert.Proof

end
